-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 1]⟩ ⟨2, ![1024, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![1024, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S256x256 : Shape := ⟨2, ![256, 256]⟩
abbrev S4x2x128x256 : Shape := ⟨4, ![4, 2, 128, 256]⟩
abbrev S4x256x1 : Shape := ⟨3, ![4, 256, 1]⟩
abbrev S3 : Shape := ⟨1, ![3]⟩
abbrev S4 : Shape := ⟨1, ![4]⟩
abbrev S_ : Shape := ⟨0, ![]⟩
abbrev S1 : Shape := ⟨1, ![1]⟩
abbrev S1x2x128x256 : Shape := ⟨4, ![1, 2, 128, 256]⟩
abbrev S1x256x1 : Shape := ⟨3, ![1, 256, 1]⟩
abbrev S1x128x256 : Shape := ⟨3, ![1, 128, 256]⟩
abbrev S128x256 : Shape := ⟨2, ![128, 256]⟩
abbrev S256x8 : Shape := ⟨2, ![256, 8]⟩
abbrev S1x8 : Shape := ⟨2, ![1, 8]⟩
abbrev S8 : Shape := ⟨1, ![8]⟩
abbrev S256 : Shape := ⟨1, ![256]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S128x8, .f32⟩
  | .hbm, ⟨2, _⟩ => ⟨S256x1, .i32⟩
  | .hbm, ⟨3, _⟩ => ⟨S2x128x256, .f32⟩
  | .hbm, ⟨4, _⟩ => ⟨S256x256, .f32⟩
  | .local _ .vmem, ⟨0, _⟩ => ⟨S256x128, .f32⟩
  | .local _ .vmem, ⟨1, _⟩ => ⟨S256x1, .i32⟩
  | .local _ .vmem, ⟨2, _⟩ => ⟨S2x128x256, .f32⟩
  | .local _ .vmem, ⟨3, _⟩ => ⟨S256x256, .f32⟩
  | .local _ .vmem, ⟨4, _⟩ => ⟨S2x128x256, .bf16⟩
  | .local _ .vmem, ⟨5, _⟩ => ⟨S4x2x128x256, .bf16⟩
  | .local _ .vmem, ⟨6, _⟩ => ⟨S4x256x1, .i32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_23 : BitVec 32 := 0#32
  let c0_i32_24 : BitVec 32 := 0#32
  let c0_i32_25 : BitVec 32 := 0#32
  ![v2.toNat, 0, 0, 0]
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v22 : BitVec 32 := Scalar.addi v2 c1_i32_18
  let c4_i32_19 : BitVec 32 := 4#32
  let v23 : BitVec 32 := Scalar.remsi v22 c4_i32_19
  let c1_i32_21 : BitVec 32 := 1#32
  let v24 : BitVec 32 := Scalar.muli v23 c1_i32_21
  let v25 : BitVec 32 := Scalar.addi c0_i32_22 v24
  v25.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_29 : BitVec 32 := 0#32
  let c0_i32_30 : BitVec 32 := 0#32
  ![v2.toNat, 0, 0]
def k0_dev5 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v22 : BitVec 32 := Scalar.addi v2 c1_i32_18
  let c4_i32_19 : BitVec 32 := 4#32
  let v23 : BitVec 32 := Scalar.remsi v22 c4_i32_19
  let c1_i32_27 : BitVec 32 := 1#32
  let v32 : BitVec 32 := Scalar.muli v23 c1_i32_27
  let v33 : BitVec 32 := Scalar.addi c0_i32_28 v32
  v33.toNat
def k0_dev6 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_31 : BitVec 32 := 2#32
  let v40 : BitVec 32 := Scalar.addi v2 c2_i32_31
  let c4_i32_32 : BitVec 32 := 4#32
  let v41 : BitVec 32 := Scalar.remsi v40 c4_i32_32
  let c1_i32_34 : BitVec 32 := 1#32
  let v42 : BitVec 32 := Scalar.muli v41 c1_i32_34
  let v43 : BitVec 32 := Scalar.addi c0_i32_35 v42
  v43.toNat
def k0_dev7 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_31 : BitVec 32 := 2#32
  let v40 : BitVec 32 := Scalar.addi v2 c2_i32_31
  let c4_i32_32 : BitVec 32 := 4#32
  let v41 : BitVec 32 := Scalar.remsi v40 c4_i32_32
  let c1_i32_40 : BitVec 32 := 1#32
  let v50 : BitVec 32 := Scalar.muli v41 c1_i32_40
  let v51 : BitVec 32 := Scalar.addi c0_i32_41 v50
  v51.toNat
def k0_dev8 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_44 : BitVec 32 := 3#32
  let v58 : BitVec 32 := Scalar.addi v2 c3_i32_44
  let c4_i32_45 : BitVec 32 := 4#32
  let v59 : BitVec 32 := Scalar.remsi v58 c4_i32_45
  let c1_i32_47 : BitVec 32 := 1#32
  let v60 : BitVec 32 := Scalar.muli v59 c1_i32_47
  let v61 : BitVec 32 := Scalar.addi c0_i32_48 v60
  v61.toNat
def k0_dev9 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_44 : BitVec 32 := 3#32
  let v58 : BitVec 32 := Scalar.addi v2 c3_i32_44
  let c4_i32_45 : BitVec 32 := 4#32
  let v59 : BitVec 32 := Scalar.remsi v58 c4_i32_45
  let c1_i32_53 : BitVec 32 := 1#32
  let v68 : BitVec 32 := Scalar.muli v59 c1_i32_53
  let v69 : BitVec 32 := Scalar.addi c0_i32_54 v68
  v69.toNat
def k0_off4 (d0 : Dev nD) (c1_i32_76 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v118 : BitVec 32 := Scalar.addi v2 c1_i32_76
  let c4_i32_77 : BitVec 32 := 4#32
  let v119 : BitVec 32 := Scalar.remsi v118 c4_i32_77
  ![v119.toNat]
def k0_off5 (d0 : Dev nD) (c1_i32_76 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v118 : BitVec 32 := Scalar.addi v2 c1_i32_76
  let c4_i32_77 : BitVec 32 := 4#32
  let v119 : BitVec 32 := Scalar.remsi v118 c4_i32_77
  let c0_i32_81 : BitVec 32 := 0#32
  let c0_i32_82 : BitVec 32 := 0#32
  ![v119.toNat, 0, 0]
def k0_off6 (d0 : Dev nD) (c1_i32_76 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v118 : BitVec 32 := Scalar.addi v2 c1_i32_76
  let c4_i32_77 : BitVec 32 := 4#32
  let v119 : BitVec 32 := Scalar.remsi v118 c4_i32_77
  let v126 : Index := Scalar.indexCast v119
  let c0_83 : Index := 0#32
  let c0_84 : Index := 0#32
  ![v126.toNat, 0, 0]
def k0_off7 (d0 : Dev nD) (c1_i32_111 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v189 : BitVec 32 := Scalar.addi v2 c1_i32_111
  let c4_i32_112 : BitVec 32 := 4#32
  let v190 : BitVec 32 := Scalar.remsi v189 c4_i32_112
  let c0_i32_116 : BitVec 32 := 0#32
  let c0_i32_117 : BitVec 32 := 0#32
  let c0_i32_118 : BitVec 32 := 0#32
  ![v190.toNat, 0, 0, 0]
def k0_off8 (d0 : Dev nD) (c1_i32_111 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v189 : BitVec 32 := Scalar.addi v2 c1_i32_111
  let c4_i32_112 : BitVec 32 := 4#32
  let v190 : BitVec 32 := Scalar.remsi v189 c4_i32_112
  let v197 : Index := Scalar.indexCast v190
  let c0_119 : Index := 0#32
  let c0_120 : Index := 0#32
  let c0_121 : Index := 0#32
  ![v197.toNat, 0, 0, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x128 : Shape := ⟨2, ![1024, 128]⟩
abbrev S128x8 : Shape := ⟨2, ![128, 8]⟩
abbrev S1024x1 : Shape := ⟨2, ![1024, 1]⟩
abbrev S8x128x256 : Shape := ⟨3, ![8, 128, 256]⟩
abbrev S8 : Shape := ⟨1, ![8]⟩
abbrev S1x8 : Shape := ⟨2, ![1, 8]⟩
abbrev S1024x8 : Shape := ⟨2, ![1024, 8]⟩
abbrev S_ : Shape := ⟨0, ![]⟩
abbrev S1024x8x256 : Shape := ⟨3, ![1024, 8, 256]⟩
abbrev S1024x8x1 : Shape := ⟨3, ![1024, 8, 1]⟩
abbrev S1024x256 : Shape := ⟨2, ![1024, 256]⟩

abbrev nBuf : Space → Nat
  | .hbm => 26
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S128x8, .f32⟩
  | .hbm, ⟨2, _⟩ => ⟨S1024x1, .i32⟩
  | .hbm, ⟨3, _⟩ => ⟨S8x128x256, .f32⟩
  | .hbm, ⟨4, _⟩ => ⟨S8, .i32⟩
  | .hbm, ⟨5, _⟩ => ⟨S1x8, .i32⟩
  | .hbm, ⟨6, _⟩ => ⟨S1024x8, .i32⟩
  | .hbm, ⟨7, _⟩ => ⟨S1024x8, .i32⟩
  | .hbm, ⟨8, _⟩ => ⟨S1024x8, .i1⟩
  | .hbm, ⟨9, _⟩ => ⟨S1024x8, .i32⟩
  | .hbm, ⟨10, _⟩ => ⟨S_, .i32⟩
  | .hbm, ⟨11, _⟩ => ⟨S_, .i32⟩
  | .hbm, ⟨12, _⟩ => ⟨S1024x8, .i32⟩
  | .hbm, ⟨13, _⟩ => ⟨S1024x8, .i32⟩
  | .hbm, ⟨14, _⟩ => ⟨S_, .i32⟩
  | .hbm, ⟨15, _⟩ => ⟨S1024x8, .i32⟩
  | .hbm, ⟨16, _⟩ => ⟨S1024x8, .i1⟩
  | .hbm, ⟨17, _⟩ => ⟨S1024x8, .i1⟩
  | .hbm, ⟨18, _⟩ => ⟨S1024x8x256, .f32⟩
  | .hbm, ⟨19, _⟩ => ⟨S1024x8x1, .i1⟩
  | .hbm, ⟨20, _⟩ => ⟨S_, .f32⟩
  | .hbm, ⟨21, _⟩ => ⟨S1024x8x256, .i1⟩
  | .hbm, ⟨22, _⟩ => ⟨S1024x8x256, .f32⟩
  | .hbm, ⟨23, _⟩ => ⟨S1024x8x256, .f32⟩
  | .hbm, ⟨24, _⟩ => ⟨S_, .f32⟩
  | .hbm, ⟨25, _⟩ => ⟨S1024x256, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== Proof.Protocol.lean ====
/-
# The exchange: its cells, its memrefs, what each cell's round hands over

Four devices. Each device first tells the three others that it has entered (one unit on each one's barrier
semaphore) and waits for three units; then it copies its narrowed expert block and its route indices into its own slot
of every other device's two landing buffers, six remote copies in all; then it waits for the three index blocks and the
three expert blocks of the others, and last for its own six copies to have been read.

A unit on a barrier semaphore hands over the two slots that the receiver of the unit may fill at the sender of the unit.
A landed copy hands over the filled slot; a finished send hands back the share of the buffer it read.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Transfers
public import Idealize.ShloMosaic.Lib.ValueLayout
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-! ## The resource algebra: the staging's copy and the exchange's (a cell's duties named by `Fin 3`) -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-! ## The devices: `sh c j` is the device `j + 1` places after `c` -/

set_option backward.proofsInPublic true in
def sh (c : Dev nD) (j : Fin 3) : Dev nD := ⟨(c.val + j.val + 1) % 4, Nat.mod_lt _ (by decide)⟩

/-- The shift that undoes `j`. -/
def op (j : Fin 3) : Fin 3 := Fin.rev j

theorem sh_op (c : Dev nD) (j : Fin 3) : sh (sh c j) (op j) = c := by revert c j; decide
theorem sh_op' (c : Dev nD) (j : Fin 3) : sh (sh c (op j)) j = c := by revert c j; decide
theorem op_op (j : Fin 3) : op (op j) = j := by revert j; decide
theorem sh_ne (c : Dev nD) (j : Fin 3) : sh c j ≠ c := by revert c j; decide

def rot (j : Fin 3) : Dev nD ≃ Dev nD := ⟨fun c => sh c j, fun c => sh c (op j), fun c => sh_op c j, fun c => sh_op' c j⟩

/-- The four devices, met from `c`. -/
theorem bigSep_dev {M : Type} [URA M] (c : Dev nD) (Φ : Dev nD → sProp M) :
    bigSep Finset.univ Φ = iprop(Φ c ∗ Φ (sh c 0) ∗ Φ (sh c 1) ∗ Φ (sh c 2)) :=
  bigSep_univ_eq_bigSepL [c, sh c 0, sh c 1, sh c 2] (by revert c; decide) (by revert c; decide) Φ

theorem bigSep_three {M : Type} [URA M] (Φ : Fin 3 → sProp M) :
    bigSep Finset.univ Φ = iprop(Φ 0 ∗ Φ 1 ∗ Φ 2) :=
  bigSep_univ_eq_bigSepL [0, 1, 2] (by decide) (by decide) Φ

/-- The devices the program names: signals 1–3, then the copies' targets in pairs. -/
theorem dev1_eq (c : Dev nD) : (⟨k0_dev1 c, k0_dev1_lt c⟩ : Dev nD) = sh c 0 := Fin.ext (k0_dev1_eq c)
theorem dev2_eq (c : Dev nD) : (⟨k0_dev2 c, k0_dev2_lt c⟩ : Dev nD) = sh c 1 := Fin.ext (k0_dev2_eq c)
theorem dev3_eq (c : Dev nD) : (⟨k0_dev3 c, k0_dev3_lt c⟩ : Dev nD) = sh c 2 := Fin.ext (k0_dev3_eq c)
theorem dev4_eq (c : Dev nD) : (⟨k0_dev4 c, k0_dev4_lt c⟩ : Dev nD) = sh c 0 := Fin.ext (k0_dev4_eq c)
theorem dev5_eq (c : Dev nD) : (⟨k0_dev5 c, k0_dev5_lt c⟩ : Dev nD) = sh c 0 := Fin.ext (k0_dev5_eq c)
theorem dev6_eq (c : Dev nD) : (⟨k0_dev6 c, k0_dev6_lt c⟩ : Dev nD) = sh c 1 := Fin.ext (k0_dev6_eq c)
theorem dev7_eq (c : Dev nD) : (⟨k0_dev7 c, k0_dev7_lt c⟩ : Dev nD) = sh c 1 := Fin.ext (k0_dev7_eq c)
theorem dev8_eq (c : Dev nD) : (⟨k0_dev8 c, k0_dev8_lt c⟩ : Dev nD) = sh c 2 := Fin.ext (k0_dev8_eq c)
theorem dev9_eq (c : Dev nD) : (⟨k0_dev9 c, k0_dev9_lt c⟩ : Dev nD) = sh c 2 := Fin.ext (k0_dev9_eq c)

/-! ## The memrefs -/

abbrev xM : Memref sig .tc .vmem S256x128 .f32 := Memref.whole cc0_stg0_0
abbrev iM : Memref sig .tc .vmem S256x1 .i32 := Memref.whole cc0_stg1_0
abbrev wM : Memref sig .tc .vmem S2x128x256 .f32 := Memref.whole cc0_stg2_0
abbrev oM : Memref sig .tc .vmem S256x256 .f32 := Memref.whole cc0_stg3_0
abbrev nM : Memref sig .tc .vmem S2x128x256 .bf16 := Memref.whole cc0_scratch0
abbrev cwM : Memref sig .tc .vmem S4x2x128x256 .bf16 := Memref.whole cc0_scratch1
abbrev ciM : Memref sig .tc .vmem S4x256x1 .i32 := Memref.whole cc0_scratch2

/-- Device `s`'s slot of a landing buffer of expert blocks. -/
abbrev slW (s : Dev nD) : Memref sig .tc .vmem S2x128x256 .bf16 :=
  (cwM.slice (Rect.unit (k0_off2 s) S1x2x128x256.size (k0_off2_inb s)) (fun _ => rfl)).squeeze S2x128x256 squeezes_S1x2x128x256_S2x128x256
/-- Device `s`'s slot of a landing buffer of route indices. -/
abbrev slI (s : Dev nD) : Memref sig .tc .vmem S256x1 .i32 :=
  (ciM.slice (Rect.unit (k0_off3 s) S1x256x1.size (k0_off3_inb s)) (fun _ => rfl)).squeeze S256x1 squeezes_S1x256x1_S256x1

/-! ## The semaphores -/

abbrev barS : Sem sig := (SemArray.scalar (sig.barrier 0 rfl) : Sems sig S_).sem
set_option backward.proofsInPublic true in
def sW (j : Fin 3) : DmaSem sig := ⟨4 + j.val, by have := j.isLt; show _ < 18; omega⟩
set_option backward.proofsInPublic true in
def rW (s : Dev nD) : DmaSem sig := ⟨7 + s.val, by have : s.val < 4 := s.isLt; show _ < 18; omega⟩
set_option backward.proofsInPublic true in
def sI (j : Fin 3) : DmaSem sig := ⟨11 + j.val, by have := j.isLt; show _ < 18; omega⟩
set_option backward.proofsInPublic true in
def rI (s : Dev nD) : DmaSem sig := ⟨14 + s.val, by have : s.val < 4 := s.isLt; show _ < 18; omega⟩

/-- What a semaphore is for. -/
inductive Role where
  | bar | sendW (j : Fin 3) | recvW (s : Dev nD) | sendI (j : Fin 3) | recvI (s : Dev nD) | other
  deriving DecidableEq

def role : SemLoc sig → Role
  | .reg q => if q = barS then .bar else .other
  | .dma q => match q with
    | ⟨4, _⟩ => .sendW 0 | ⟨5, _⟩ => .sendW 1 | ⟨6, _⟩ => .sendW 2
    | ⟨7, _⟩ => .recvW 0 | ⟨8, _⟩ => .recvW 1 | ⟨9, _⟩ => .recvW 2 | ⟨10, _⟩ => .recvW 3
    | ⟨11, _⟩ => .sendI 0 | ⟨12, _⟩ => .sendI 1 | ⟨13, _⟩ => .sendI 2
    | ⟨14, _⟩ => .recvI 0 | ⟨15, _⟩ => .recvI 1 | ⟨16, _⟩ => .recvI 2 | ⟨17, _⟩ => .recvI 3
    | _ => .other

theorem role_bar : role (.reg barS) = .bar := by decide
theorem role_sW (j : Fin 3) : role (.dma (sW j)) = .sendW j := by revert j; decide
theorem role_rW (s : Dev nD) : role (.dma (rW s)) = .recvW s := by revert s; decide
theorem role_sI (j : Fin 3) : role (.dma (sI j)) = .sendI j := by revert j; decide
theorem role_rI (s : Dev nD) : role (.dma (rI s)) = .recvI s := by revert s; decide

abbrev cell (c : Dev nD) (sm : SemLoc sig) : GSem nD τ sig := ((c : Thread nD τ), sm)
abbrev barC (c : Dev nD) : GSem nD τ sig := cell c (.reg barS)
abbrev sWC (c : Dev nD) (j : Fin 3) : GSem nD τ sig := cell c (.dma (sW j))
abbrev rWC (c s : Dev nD) : GSem nD τ sig := cell c (.dma (rW s))
abbrev sIC (c : Dev nD) (j : Fin 3) : GSem nD τ sig := cell c (.dma (sI j))
abbrev rIC (c s : Dev nD) : GSem nD τ sig := cell c (.dma (rI s))

set_option backward.proofsInPublic true in
/-- The kernel's own (scoped) semaphores in order, and all of the exchange's, the barrier's first. -/
def osem (k : Fin 14) : SemLoc sig := .dma ⟨4 + k.val, by have := k.isLt; show _ < 18; omega⟩
def csem : Fin 15 → SemLoc sig := Fin.cons (.reg barS) osem
def kcell (ck : Dev nD × Fin 15) : GSem nD τ sig := cell ck.1 (csem ck.2)

/-- Where each semaphore stands in `csem`. -/
def kW (j : Fin 3) : Fin 15 := ⟨1 + j.val, by omega⟩
def krW (s : Dev nD) : Fin 15 := ⟨4 + s.val, by have : s.val < 4 := s.isLt; omega⟩
def kI (j : Fin 3) : Fin 15 := ⟨8 + j.val, by omega⟩
def krI (s : Dev nD) : Fin 15 := ⟨11 + s.val, by have : s.val < 4 := s.isLt; omega⟩
theorem csem_bar : csem 0 = .reg barS := rfl
theorem csem_sW (j : Fin 3) : csem (kW j) = .dma (sW j) := by revert j; decide
theorem csem_rW (s : Dev nD) : csem (krW s) = .dma (rW s) := by revert s; decide
theorem csem_sI (j : Fin 3) : csem (kI j) = .dma (sI j) := by revert j; decide
theorem csem_rI (s : Dev nD) : csem (krI s) = .dma (rI s) := by revert s; decide

/-! ## The credits -/

abbrev NW : ℕ := (nM : Memref sig .tc .vmem S2x128x256 .bf16).view.dmaCredit
abbrev NI : ℕ := (iM : Memref sig .tc .vmem S256x1 .i32).view.dmaCredit
theorem NW_pos : 0 < NW := View.dmaCredit_pos _ (by decide)
theorem NI_pos : 0 < NI := View.dmaCredit_pos _ (by decide)
theorem slW_credit (s : Dev nD) : (slW s).view.dmaCredit = NW := rfl
theorem slI_credit (s : Dev nD) : (slI s).view.dmaCredit = NI := rfl

/-! ## Contents -/

/-- Device `c`'s staged blocks: its rows of `x`, its route indices, its two experts. -/
def xs (c : Dev nD) : (cc0_stg0_0 : Ref sig .tc).ty.Contents (Elt F) := iblk m c 0 t0_0
def is (c : Dev nD) : (cc0_stg1_0 : Ref sig .tc).ty.Contents (Elt F) := iblk m c 1 t0_0
def ws (c : Dev nD) : (cc0_stg2_0 : Ref sig .tc).ty.Contents (Elt F) := iblk m c 2 t0_0
/-- Its experts narrowed. -/
def n16 (c : Dev nD) : (cc0_scratch0 : Ref sig .tc).ty.Contents (Elt F) := k0_pay1 (ws m c)

/-- What the landing buffers hold once every slot is filled, the same on every device: in slot `s`, device `s`'s
    narrowed experts; in slot `s`, device `s`'s route indices. -/
def gW : (cc0_scratch1 : Ref sig .tc).ty.Contents (Elt F) :=
  fun i : S4x2x128x256.Idx => n16 m (i 0) (ix3 (i 1 : Fin 2) (i 2 : Fin 128) (i 3 : Fin 256))
def gI : (cc0_scratch2 : Ref sig .tc).ty.Contents (Elt F) :=
  fun i : S4x256x1.Idx => is m (i 0) (ix2 (i 1 : Fin 256) (i 2 : Fin 1))

/-! ## The pieces of memory that move -/

/-- The elements of slot `s` of a landing buffer. -/
def JW (s : Dev nD) : Finset (cc0_scratch1 : Ref sig .tc).ty.Idx := (slW s).view.set
def JI (s : Dev nD) : Finset (cc0_scratch2 : Ref sig .tc).ty.Idx := (slI s).view.set

/-- Slot `s` of device `d`'s landing buffers. -/
def wPts (d s : Dev nD) (f : Buf (Elt F) ((d : Thread nD τ).loc cc0_scratch1)) : sProp 𝕄 :=
  ((d : Thread nD τ).loc cc0_scratch1) ↦[JW s]{fullShare} f
def iPts (d s : Dev nD) (f : Buf (Elt F) ((d : Thread nD τ).loc cc0_scratch2)) : sProp 𝕄 :=
  ((d : Thread nD τ).loc cc0_scratch2) ↦[JI s]{fullShare} f
/-- The share of device `c`'s narrowed experts, and of its staged route indices, that its copy `j` reads. -/
def nTok (c : Dev nD) (j : Fin 3) : sProp 𝕄 :=
  ((c : Thread nD τ).loc cc0_scratch0) ↦{Transfers.shareTok fullShare 3 j} n16 m c
def iTok (c : Dev nD) (j : Fin 3) : sProp 𝕄 :=
  ((c : Thread nD τ).loc cc0_stg1_0) ↦{Transfers.shareTok fullShare 3 j} is m c
/-- The shares it keeps meanwhile. -/
def nKeep (c : Dev nD) : sProp 𝕄 :=
  ((c : Thread nD τ).loc cc0_scratch0) ↦{Transfers.shareDrop fullShare 3} n16 m c
def iKeep (c : Dev nD) : sProp 𝕄 :=
  ((c : Thread nD τ).loc cc0_stg1_0) ↦{Transfers.shareDrop fullShare 3} is m c

instance wPts_storable (d s : Dev nD) (f) : BI.Storable (upEmb : UEmb _ 𝕄) (wPts (F := F) d s f) := by unfold wPts; infer_instance
instance iPts_storable (d s : Dev nD) (f) : BI.Storable (upEmb : UEmb _ 𝕄) (iPts (F := F) d s f) := by unfold iPts; infer_instance
instance nTok_storable (c : Dev nD) (j : Fin 3) : BI.Storable (upEmb : UEmb _ 𝕄) (nTok (F := F) m c j) := by unfold nTok; infer_instance
instance iTok_storable (c : Dev nD) (j : Fin 3) : BI.Storable (upEmb : UEmb _ 𝕄) (iTok (F := F) m c j) := by unfold iTok; infer_instance

/-! ## The schedule -/

/-- What the unit from `sh d i` on `d`'s barrier hands `d`: slot `d` of both landing buffers at `sh d i`. -/
def barPay (d : Dev nD) (i : Fin 3) : sProp 𝕄 := iprop((∃ f, wPts (F := F) (sh d i) d f) ∗ (∃ f, iPts (F := F) (sh d i) d f))

instance barPay_storable (d : Dev nD) (i : Fin 3) : BI.Storable (upEmb : UEmb _ 𝕄) (barPay (F := F) d i) := by unfold barPay; infer_instance

/-- The duties of device `d`'s semaphore of role `k`: three units on the barrier; one copy's credit on a send's
    semaphore and on the semaphore of every slot but its own. -/
def roleDuties (d : Dev nD) : Role → Finset (Fin 3)
  | .bar => Finset.univ
  | .sendW _ | .sendI _ => {0}
  | .recvW s | .recvI s => if s = d then ∅ else {0}
  | .other => ∅
def roleAmount : Role → ℕ
  | .bar | .other => 1
  | .sendW _ | .recvW _ => NW
  | .sendI _ | .recvI _ => NI
def rolePay (d : Dev nD) (i : Fin 3) : Role → sProp 𝕄
  | .bar => barPay d i
  | .sendW j => nTok m d j
  | .recvW s => wPts d s (gW m)
  | .sendI j => iTok m d j
  | .recvI s => iPts d s (gI m)
  | .other => iprop(emp)

theorem roleAmount_pos (k : Role) : 0 < roleAmount k := by
  cases k <;> first | exact Nat.one_pos | exact NW_pos | exact NI_pos

def Rd : Rounds.Schedule (GSem nD τ sig) (Fin 3) 𝕄 where
  duties g r := if r = 0 ∧ g.1.2 = .tc then roleDuties g.1.1 (role g.2) else ∅
  unitless _ := False
  amount g _ _ := roleAmount (role g.2)
  payload g _ i := rolePay m g.1.1 i (role g.2)
  amount_pos g _ _ _ := roleAmount_pos _

instance Rd_payload_storable (g : GSem nD τ sig) (r : ℕ) (i : Fin 3) :
    BI.Storable (upEmb : UEmb _ 𝕄) ((Rd (F := F) m).payload g r i) := by
  show BI.Storable upEmb (rolePay m g.1.1 i (role g.2))
  cases role g.2 <;> dsimp only [rolePay] <;> infer_instance

section Sched
variable (c : Dev nD) (sm : SemLoc sig) (k : Role) (hk : role sm = k)
include hk

theorem duties_zero : (Rd (F := F) m).duties (cell c sm) 0 = roleDuties c k := by
  dsimp only [Rd]; rw [hk]; exact if_pos ⟨rfl, rfl⟩
theorem amount_of (r : ℕ) (i : Fin 3) : (Rd (F := F) m).amount (cell c sm) r i = roleAmount k := by dsimp only [Rd]; rw [hk]
theorem payload_of (r : ℕ) (i : Fin 3) : (Rd (F := F) m).payload (cell c sm) r i = rolePay m c i k := by dsimp only [Rd]; rw [hk]
theorem expect_zero : (Rd (F := F) m).expect (cell c sm) 0 = (roleDuties c k).card * roleAmount k := by
  unfold Schedule.expect Schedule.amountOf
  rw [duties_zero m c sm k hk, Finset.sum_congr rfl fun i _ => amount_of m c sm k hk 0 i, Finset.sum_const, smul_eq_mul]
/-- What a wait for the whole of round 0 hands over. -/
theorem rest_zero : bigSep ((Rd (F := F) m).duties (cell c sm) 0 \ ∅) (fun i => (Rd (F := F) m).payload (cell c sm) 0 i)
    = bigSep (roleDuties c k) (fun i => rolePay (F := F) m c i k) := by
  rw [Finset.sdiff_empty, duties_zero m c sm k hk]
  exact congrArg (bigSep _) (funext fun i => payload_of m c sm k hk 0 i)

end Sched

theorem duties_later (g : GSem nD τ sig) : ∀ r, 1 ≤ r → (Rd (F := F) m).duties g r = ∅ :=
  fun r hr => by dsimp only [Rd]; exact if_neg fun h => by omega
/-- The semaphores of a device's own slots have no duty at all. -/
theorem duties_own (c : Dev nD) (sm : SemLoc sig) (h : role sm = .recvW c ∨ role sm = .recvI c) :
    ∀ r, 0 ≤ r → (Rd (F := F) m).duties (cell c sm) r = ∅ := fun r _ => by
  dsimp only [Rd]
  split
  · rcases h with h | h <;> rw [h] <;> exact if_pos rfl
  · rfl

/-! ## What each device owes at launch; the levels -/

def payB (c : Dev nD) (j : Fin 3) : CellTallies nD τ sig Unit := tallyAt (barC (sh c j)) () 1
def payW (c : Dev nD) (j : Fin 3) : CellTallies nD τ sig Unit := tallyAt (rWC (sh c j) c) () NW
def payI (c : Dev nD) (j : Fin 3) : CellTallies nD τ sig Unit := tallyAt (rIC (sh c j) c) () NI

/-- The six copies, so summed that each copy in the program's order peels the last summand; then the three signals. -/
def O₁ (c : Dev nD) : CellTallies nD τ sig Unit :=
  0 + payI c 2 + payW c 2 + payI c 1 + payW c 1 + payI c 0 + payW c 0
def O₀ (c : Dev nD) : CellTallies nD τ sig Unit := O₁ c + payB c 2 + payB c 1 + payB c 0

def L (g : GSem nD τ sig) : Finset Unit := if g.1.2 = .tc then {()} else ∅
/-- Staging and send semaphores at 0, barriers at 1, the slots' semaphores at 2. -/
def roleLevel : Role → ℕ
  | .bar => 1
  | .recvW _ | .recvI _ => 2
  | .sendW _ | .sendI _ | .other => 0
def lv (g : GSem nD τ sig) (_ : Unit) : ℕ := roleLevel (role g.2)

theorem L_of_ne (g : GSem nD τ sig) (h : g.1.2 ≠ .tc) : L g = ∅ := if_neg h
theorem L_tc (c : Dev nD) (sm : SemLoc sig) : L (cell c sm) = {()} := if_pos rfl

/-- A cell that one of the copies pays is a slot's. -/
theorem O₁_pos {c : Dev nD} {g : GSem nD τ sig} {u : Unit} (h : 0 < O₁ c g u) :
    g.1.2 = .tc ∧ lv g u = 2 := by
  by_contra hn
  have hW : ∀ d s, ¬ g = rWC d s := fun d s h' => hn (by rw [h']; exact ⟨rfl, by dsimp only [lv]; rw [role_rW]; rfl⟩)
  have hI : ∀ d s, ¬ g = rIC d s := fun d s h' => hn (by rw [h']; exact ⟨rfl, by dsimp only [lv]; rw [role_rI]; rfl⟩)
  simp only [O₁, payW, payI, Pi.add_apply, Finsupp.add_apply, tallyAt_apply, hW, hI, false_and, if_false, Pi.zero_apply,
    Finsupp.zero_apply, Nat.add_zero, Nat.lt_irrefl] at h
theorem O₀_pos {c : Dev nD} {g : GSem nD τ sig} {u : Unit} (h : 0 < O₀ c g u) :
    g.1.2 = .tc ∧ 1 ≤ lv g u := by
  by_cases h1 : 0 < O₁ c g u
  · exact ⟨(O₁_pos h1).1, by rw [(O₁_pos h1).2]; decide⟩
  by_contra hn
  have hB : ∀ d, ¬ g = barC d := fun d h' => hn (by rw [h']; exact ⟨rfl, by dsimp only [lv]; rw [role_bar]; exact Nat.le_refl 1⟩)
  simp only [O₀, payB, Pi.add_apply, Finsupp.add_apply, tallyAt_apply, hB, false_and, if_false, Nat.add_zero] at h
  exact h1 h

/-- Owing what it owes at launch or nothing, a device may wait on a semaphore of level 0. -/
theorem mayWait_low (c : Dev nD) (sm : SemLoc sig) (hs : roleLevel (role sm) = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by unfold L; rw [if_pos (O₀_pos hg).1]; exact Finset.mem_singleton_self _)
      (fun p hp => by rw [Finset.mem_singleton.mp hp]; exact le_of_eq hs)
      (fun g u hg => (O₀_pos hg).2)
  · rw [MayWait_zero]; iintro -; iempintro
/-- Owing its six copies, it may wait on its barrier. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by unfold L; rw [if_pos (O₁_pos hg).1]; exact Finset.mem_singleton_self _)
    (fun p hp => by rw [Finset.mem_singleton.mp hp]; dsimp only [lv]; rw [role_bar]; exact Nat.le_refl 1)
    (fun g u hg => by rw [(O₁_pos hg).2]; decide)

end Cert.Exchange

end
-- ==== Proof.Steps.lean ====
/-
# The exchange's steps: one lemma per kind of effect the body performs
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The slots -/

theorem slW_set (s : Dev nD) : JW s = (Rect.unit (s := S4x2x128x256) (k0_off2 s) S1x2x128x256.size (k0_off2_inb s)).set :=
  (Memref.set_view_squeeze _ _).trans (View.set_slice_whole _ _)
theorem slI_set (s : Dev nD) : JI s = (Rect.unit (s := S4x256x1) (k0_off3 s) S1x256x1.size (k0_off3_inb s)).set :=
  (Memref.set_view_squeeze _ _).trans (View.set_slice_whole _ _)

/-- An index lies in slot `s` when its first coordinate is `s`. -/
theorem mem_slW (s : Dev nD) (i : S4x2x128x256.Idx) : i ∈ JW s ↔ (i 0).val = s.val := by
  rw [slW_set, Rect.mem_set_unit]
  constructor
  · intro h
    have h0 := h 0
    simp only [k0_off2_eq] at h0
    change s.val ≤ (i 0).val ∧ (i 0).val < s.val + 1 at h0
    omega
  · intro h a
    have h1 := (i 1).isLt; have h2 := (i 2).isLt; have h3 := (i 3).isLt
    simp only [k0_off2_eq]
    fin_cases a
    · change s.val ≤ (i 0).val ∧ (i 0).val < s.val + 1; omega
    · exact ⟨Nat.zero_le _, by simpa using h1⟩
    · exact ⟨Nat.zero_le _, by simpa using h2⟩
    · exact ⟨Nat.zero_le _, by simpa using h3⟩
theorem mem_slI (s : Dev nD) (i : S4x256x1.Idx) : i ∈ JI s ↔ (i 0).val = s.val := by
  rw [slI_set, Rect.mem_set_unit]
  constructor
  · intro h
    have h0 := h 0
    simp only [k0_off3_eq] at h0
    change s.val ≤ (i 0).val ∧ (i 0).val < s.val + 1 at h0
    omega
  · intro h a
    have h1 := (i 1).isLt; have h2 := (i 2).isLt
    simp only [k0_off3_eq]
    fin_cases a
    · change s.val ≤ (i 0).val ∧ (i 0).val < s.val + 1; omega
    · exact ⟨Nat.zero_le _, by simpa using h1⟩
    · exact ⟨Nat.zero_le _, by simpa using h2⟩

/-- The four slots are apart and fill the buffer. -/
theorem slW_disjoint (s s' : Dev nD) (h : s ≠ s') : Disjoint (JW s) (JW s') :=
  Finset.disjoint_left.mpr fun i hi hi' => h (Fin.ext (((mem_slW s i).1 hi).symm.trans ((mem_slW s' i).1 hi')))
theorem slI_disjoint (s s' : Dev nD) (h : s ≠ s') : Disjoint (JI s) (JI s') :=
  Finset.disjoint_left.mpr fun i hi hi' => h (Fin.ext (((mem_slI s i).1 hi).symm.trans ((mem_slI s' i).1 hi')))
theorem slW_cover : (Finset.univ : Finset (Dev nD)).biUnion (fun s => JW s) = Finset.univ :=
  Finset.eq_univ_iff_forall.mpr fun i => Finset.mem_biUnion.mpr ⟨(i 0 : Fin 4), Finset.mem_univ _, (mem_slW _ i).2 rfl⟩
theorem slI_cover : (Finset.univ : Finset (Dev nD)).biUnion (fun s => JI s) = Finset.univ :=
  Finset.eq_univ_iff_forall.mpr fun i => Finset.mem_biUnion.mpr ⟨(i 0 : Fin 4), Finset.mem_univ _, (mem_slI _ i).2 rfl⟩

/-- A landing buffer held whole is its four slots, the device's own first. -/
theorem wPts_split (c : Dev nD) (f : Buf (Elt F) ((c : Thread nD τ).loc cc0_scratch1)) :
    (((c : Thread nD τ).loc cc0_scratch1) ↦{fullShare} f : sProp 𝕄)
      = iprop(wPts c c f ∗ wPts c (sh c 0) f ∗ wPts c (sh c 1) f ∗ wPts c (sh c 2) f) :=
  (Ring.pointsTo_blocks (ℓ := (c : Thread nD τ).loc cc0_scratch1) JW slW_disjoint slW_cover f).trans (bigSep_dev c (fun s => wPts c s f))
theorem iPts_split (c : Dev nD) (f : Buf (Elt F) ((c : Thread nD τ).loc cc0_scratch2)) :
    (((c : Thread nD τ).loc cc0_scratch2) ↦{fullShare} f : sProp 𝕄)
      = iprop(iPts c c f ∗ iPts c (sh c 0) f ∗ iPts c (sh c 1) f ∗ iPts c (sh c 2) f) :=
  (Ring.pointsTo_blocks (ℓ := (c : Thread nD τ).loc cc0_scratch2) JI slI_disjoint slI_cover f).trans (bigSep_dev c (fun s => iPts c s f))
theorem wPts_join (c : Dev nD) (f : Buf (Elt F) ((c : Thread nD τ).loc cc0_scratch1)) :
    iprop(wPts c c f ∗ wPts c (sh c 0) (gW m) ∗ wPts c (sh c 1) (gW m) ∗ wPts c (sh c 2) (gW m))
      ⊢ (iprop(∃ g : Buf (Elt F) ((c : Thread nD τ).loc cc0_scratch1), ((c : Thread nD τ).loc cc0_scratch1) ↦{fullShare} g) : sProp 𝕄) := by
  refine BIBase.Entails.trans ?_ (Ring.pointsTo_blocks_join_exists JW slW_disjoint slW_cover f)
  rw [bigSep_dev c]
  unfold wPts
  iintro ⟨H, H0, H1, H2⟩
  isplitl [H]; · iexists _; iexact H
  isplitl [H0]; · iexists _; iexact H0
  isplitl [H1]; · iexists _; iexact H1
  iexists _; iexact H2
theorem iPts_join (c : Dev nD) (f : Buf (Elt F) ((c : Thread nD τ).loc cc0_scratch2)) :
    iprop(iPts c c f ∗ iPts c (sh c 0) (gI m) ∗ iPts c (sh c 1) (gI m) ∗ iPts c (sh c 2) (gI m))
      ⊢ (iprop(∃ g : Buf (Elt F) ((c : Thread nD τ).loc cc0_scratch2), ((c : Thread nD τ).loc cc0_scratch2) ↦{fullShare} g) : sProp 𝕄) := by
  refine BIBase.Entails.trans ?_ (Ring.pointsTo_blocks_join_exists JI slI_disjoint slI_cover f)
  rw [bigSep_dev c]
  unfold iPts
  iintro ⟨H, H0, H1, H2⟩
  isplitl [H]; · iexists _; iexact H
  isplitl [H0]; · iexists _; iexact H0
  isplitl [H1]; · iexists _; iexact H1
  iexists _; iexact H2

/-- Device `s`'s copy leaves in its slot what `gW` (`gI`) says, whatever the slot held. -/
theorem landW (d s : Dev nD) (fd : Buf (Elt F) ((d : Thread nD τ).loc cc0_scratch1)) :
    ∀ i ∈ JW s, (slW s).view.write (Elt F) fd ((nM : Memref sig .tc .vmem S2x128x256 .bf16).view.read (Elt F) (n16 m s)) Finset.univ i = gW m i := by
  intro i hi
  obtain ⟨x, -, rfl⟩ := Finset.mem_map.mp hi
  rw [View.write_emb_of_mem _ _ (Finset.mem_univ _)]
  have hx : x = ix3 (x 0 : Fin 2) (x 1 : Fin 128) (x 2 : Fin 256) := by funext a; fin_cases a <;> rfl
  have he : (slW s).view.emb x = ix4 (s : Fin 4) (x 0 : Fin 2) (x 1 : Fin 128) (x 2 : Fin 256) := by
    show (Rect.unit (s := S4x2x128x256) (k0_off2 s) S1x2x128x256.size (k0_off2_inb s)).emb (Shape.reshapeEquiv _ x) = _
    rw [hx]
    refine (congrArg _ (reshapeEquiv_ix3_1abc (a := 2) (b := 128) (c := 256) _ (x 0) (x 1) (x 2))).trans ?_
    funext a
    apply Fin.ext
    refine (Rect.emb_apply _ _ a).trans ?_
    refine (congrArg (· + 1 * _) (congrFun (k0_off2_eq s) a)).trans ?_
    fin_cases a
    · exact Nat.add_zero _
    all_goals exact (Nat.zero_add _).trans (Nat.one_mul _)
  rw [he]
  show (View.whole cc0_scratch0).read (Elt F) (n16 m s) x = n16 m s (ix3 (x 0 : Fin 2) (x 1 : Fin 128) (x 2 : Fin 256))
  rw [View.read_whole]
  exact congrArg (n16 m s) hx
theorem landI (d s : Dev nD) (fd : Buf (Elt F) ((d : Thread nD τ).loc cc0_scratch2)) :
    ∀ i ∈ JI s, (slI s).view.write (Elt F) fd ((iM : Memref sig .tc .vmem S256x1 .i32).view.read (Elt F) (is m s)) Finset.univ i = gI m i := by
  intro i hi
  obtain ⟨x, -, rfl⟩ := Finset.mem_map.mp hi
  rw [View.write_emb_of_mem _ _ (Finset.mem_univ _)]
  have hx : x = ix2 (x 0 : Fin 256) (x 1 : Fin 1) := by funext a; fin_cases a <;> rfl
  have he : (slI s).view.emb x = ix3 (s : Fin 4) (x 0 : Fin 256) (x 1 : Fin 1) := by
    show (Rect.unit (s := S4x256x1) (k0_off3 s) S1x256x1.size (k0_off3_inb s)).emb (Shape.reshapeEquiv _ x) = _
    rw [hx]
    refine (congrArg _ (reshapeEquiv_ix2_1ab (a := 256) (b := 1) _ (x 0) (x 1))).trans ?_
    funext a
    apply Fin.ext
    refine (Rect.emb_apply _ _ a).trans ?_
    refine (congrArg (· + 1 * _) (congrFun (k0_off3_eq s) a)).trans ?_
    fin_cases a
    · exact Nat.add_zero _
    all_goals exact (Nat.zero_add _).trans (Nat.one_mul _)
  rw [he]
  show (View.whole cc0_stg1_0).read (Elt F) (is m s) x = is m s (ix2 (x 0 : Fin 256) (x 1 : Fin 1))
  rw [View.read_whole]
  exact congrArg (is m s) hx

/-! ## The cells' records: every cell of every device under its invariant, with round 0 reached -/

def records (K : Dev nD × Fin 15 → ℕ) : sProp 𝕄 :=
  bigSep Finset.univ (fun ck : Dev nD × Fin 15 => iprop(cellInv ER (Rd m) (K ck) (kcell ck) ∗ reached ER (kcell ck) 0))

instance records_persistent (K : Dev nD × Fin 15 → ℕ) : BI.Persistent (records m K) := by unfold records; infer_instance

theorem rec_at (K : Dev nD × Fin 15 → ℕ) (c : Dev nD) {k : Fin 15} {sm : SemLoc sig} (h : csem k = sm) :
    records m K ⊢ iprop(cellInv ER (Rd m) (K (c, k)) (cell c sm) ∗ reached ER (cell c sm) 0) := by
  subst h
  exact bigSep_elim (Φ := fun ck : Dev nD × Fin 15 => iprop(cellInv ER (Rd m) (K ck) (kcell ck) ∗ reached ER (kcell ck) 0)) (Finset.mem_univ (c, k))

/-- A device owes `O`, whatever it has waited on. -/
abbrev owe (c : Dev nD) (O : CellTallies nD τ sig Unit) : sProp 𝕄 := iprop(∃ W, owes (c : Thread nD τ) O W)

variable (K : Dev nD × Fin 15 → ℕ)

/-! ## The steps -/

section

/-- One unit to device `n = sh c j`, with the two slots it may fill here. -/
theorem wp_sig {α : Type} {Q : α → sProp 𝕄} {k : PUnit → Prog (TpuEff nD τ sig (Elt F) Λ₀ .tc) α}
    (c n : Dev nD) (j : Fin 3) (hn : n = sh c j) (O₀ O : CellTallies nD τ sig Unit) (hO : O₀ = O + payB c j)
    (fw : Buf (Elt F) ((c : Thread nD τ).loc cc0_scratch1)) (fi : Buf (Elt F) ((c : Thread nD τ).loc cc0_scratch2)) :
    iprop(records m K ∗ owe c O₀ ∗ dutyTok ER (barC (sh c j)) 0 (op j) ∗ wPts c (sh c j) fw ∗ iPts c (sh c j) fi)
      ⊢ iprop((owe c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32).toNat) k) Q) := by
  subst hn
  iintro ⟨#HR, ⟨%W, HO⟩, Ht, Hw, Hi⟩ Hk
  ihave HI := (rec_at m K (sh c j) csem_bar) $$ HR
  icases HI with ⟨#HI, #Hr⟩
  iapply (Rounds.wp_signal 𝒱₀ ER (Rd m) (c : Thread nD τ) none (dst := (sh c j : Thread nD τ)) (κ := K (sh c j, 0))
      (d := op j) (by rw [duties_zero m _ _ _ role_bar]; exact Finset.mem_univ _) ((amount_of m (sh c j) _ _ role_bar 0 (op j)).trans (by decide)) () O hO)
    $$ [HO Ht Hw Hi]
  · isplitr; · iexact HI
    isplitl [HO]; · iexact HO
    isplitl [Ht]; · iexact Ht
    isplitr []
    · rw [payload_of m _ _ _ role_bar]
      unfold rolePay barPay
      rw [sh_op]
      isplitl [Hw]
      · iexists fw; iexact Hw
      · iexists fi; iexact Hi
    iexact Hr
  iintro HO
  iapply Hk
  unfold owe
  iexists W; iexact HO

/-- The wait for three units, the six copies still owed: the slots to fill at the three others. -/
theorem wp_bar {α : Type} {Q : α → sProp 𝕄} {k : PUnit → Prog (TpuEff nD τ sig (Elt F) Λ₀ .tc) α}
    (c : Dev nD) :
    iprop(records m K ∗ levAts L lv ∗ cred (tallyAt (barC c) () 3) ∗ owe c (O₁ c) ∗ atPos ER (barC c) 0 ∅ 0)
      ⊢ iprop(((owe c (O₁ c) ∗ semVal (barC c) 0 ∗ barPay (F := F) c 0 ∗ barPay (F := F) c 1 ∗ barPay (F := F) c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toNat) k) Q) := by
  iintro ⟨#HR, #Hlev, Hc, ⟨%W, HO⟩, Hat⟩ Hk
  ihave HI := (rec_at m K c csem_bar) $$ HR
  icases HI with ⟨#HI, #Hr⟩
  iapply (Rounds.wp_wait_rest_token 𝒱₀ ER (Rd m) (c : Thread nD τ) none (κ := K (c, 0))
      (wpE_semWait_eq 𝒱₀ (c : Thread nD τ) none Set.univ) (Set.mem_univ _) () (O := O₁ c) (W := W) (R := 0) (m := 0) (T := ∅)
      (by rw [expect_zero m _ _ _ role_bar]; rfl)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (((rest_zero m c _ _ role_bar).trans (bigSep_three _)).trans
    (show _ = iprop(barPay (F := F) c 0 ∗ barPay (F := F) c 1 ∗ barPay (F := F) c 2) from rfl))) $$ Hpay
  icases Hp with ⟨Hp0, Hp1, Hp2⟩
  imod (Rounds.cell_close ER (Rd m) (Set.mem_univ (K (c, 0))) (fun h => h) (R := 0 + 1) (duties_later m (barC c))) $$ [Hat] with Hz
  · isplitr; · iexact HI
    iexact Hat
  iapply Hk
  isplitl [HO]; · unfold owe; iexists _; iexact HO
  isplitl [Hz]; · iexact Hz
  isplitl [Hp0]; · iexact Hp0
  isplitl [Hp1]; · iexact Hp1
  iexact Hp2

/-- A wait for one copy on one of the device's own semaphores, nothing owed: the copy's payload, and the semaphore closed. -/
theorem wp_close {α : Type} {Q : α → sProp 𝕄} {k : PUnit → Prog (TpuEff nD τ sig (Elt F) Λ₀ .tc) α}
    (c : Dev nD) {k' : Fin 15} {q : DmaSem sig} (hk : csem k' = .dma q) {r : Role} (hr : role (.dma q) = r)
    {sp sp' : Space} {s s' : Shape} {e e' : EltTy} {src : Memref sig .tc sp' s' e'} {κ' : Kind} {dst : Memref sig κ' sp s e}
    {hsrc : src.view.WordExact} {hdst : dst.view.WordExact} {N : ℕ}
    (hd : roleDuties c r = {0}) (ha : roleAmount r = N) (hN : dst.view.dmaCredit = N) (P : sProp 𝕄) (hP : rolePay m c 0 r = P) :
    iprop(records m K ∗ cred (tallyAt (cell c (.dma q)) () N) ∗ owe c 0 ∗ atPos ER (cell c (.dma q)) 0 ∅ 0)
      ⊢ iprop(((owe c 0 ∗ semVal (cell c (.dma q)) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hN hP
  iintro ⟨#HR, Hc, ⟨%W, HO⟩, Hat⟩ Hk
  ihave HI := (rec_at m K c hk) $$ HR
  icases HI with ⟨#HI, #Hr⟩
  iapply (Rounds.wp_wait_rest_token 𝒱₀ ER (Rd m) (c : Thread nD τ) none (κ := K (c, k'))
      (wpE_waitDma2_eq 𝒱₀ (c : Thread nD τ) none Set.univ) (Set.mem_univ _) () (O := 0) (W := W) (R := 0) (m := 0) (T := ∅)
      (by rw [expect_zero m _ _ _ hr, hd, ha, Finset.card_singleton, Nat.one_mul, Nat.zero_add])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_zero m c _ _ hr).trans (by rw [hd, bigSep_singleton]))) $$ Hpay
  imod (Rounds.cell_close ER (Rd m) (Set.mem_univ (K (c, k'))) (fun h => h) (R := 0 + 1) (duties_later m (cell c (.dma q)))) $$ [Hat] with Hz
  · isplitr; · iexact HI
    iexact Hat
  iapply Hk
  isplitl [HO]; · unfold owe; iexists _; iexact HO
  isplitl [Hz]; · iexact Hz
  iexact Hp

/-- A copy between buffers of two devices, over one duty of each of its two cells. The buffers are arbitrary here, so that
    nothing of a slot's shape is unfolded. -/
theorem wp_send_any {α : Type} {Q : α → sProp 𝕄} {k : PUnit → Prog (TpuEff nD τ sig (Elt F) Λ₀ .tc) α}
    {s : Shape} {e : EltTy} (src dst : Memref sig .tc .vmem s e) (c d : Dev nD) {qs qr : DmaSem sig}
    {hsc : (dst : Memref sig (Dev.tc d : Thread nD τ).2.kind .vmem s e).view.ref.isScScratch = false}
    {hsrc : src.view.WordExact} {hdst : dst.view.WordExact}
    {hsem : DmaTarget.Typed .vmem (.dma qr) (.remote (Dev.tc d : Thread nD τ) dst (.dma qs) hsc)}
    {ks kr : Fin 15} (hks : csem ks = .dma qs) (hkr : csem kr = .dma qr) (N : ℕ) (hN : dst.view.amount (.dma qr) = N)
    (hd₁ : (0 : Fin 3) ∈ (Rd m).duties (cell c (.dma qs)) 0) (hd₂ : (0 : Fin 3) ∈ (Rd m).duties (cell d (.dma qr)) 0)
    (hk₁ : (Rd m).amount (cell c (.dma qs)) 0 0 = N) (hk₂ : (Rd m).amount (cell d (.dma qr)) 0 0 = N)
    {q : PosShare TreeShare} {fs : Buf (Elt F) (src.view.loc (c : Thread nD τ))} {fd : Buf (Elt F) (dst.view.loc (d : Thread nD τ))}
    (hp₁ : (src.view.loc (c : Thread nD τ) ↦[src.view.set]{q} fs) ⊢ (Rd m).payload (cell c (.dma qs)) 0 0)
    (hp₂ : (dst.view.loc (d : Thread nD τ) ↦[dst.view.set]{fullShare} (dst.view.write (Elt F) fd (src.view.read (Elt F) fs) Finset.univ))
      ⊢ (Rd m).payload (cell d (.dma qr)) 0 0)
    (O₀ O : CellTallies nD τ sig Unit) (hO : O₀ = O + tallyAt (cell d (.dma qr)) () N) :
    iprop(records m K ∗ (src.view.loc (c : Thread nD τ) ↦[src.view.set]{q} fs) ∗ (dst.view.loc (d : Thread nD τ) ↦[dst.view.set]{fullShare} fd) ∗ owe c O₀
        ∗ dutyTok ER (cell c (.dma qs)) 0 0 ∗ dutyTok ER (cell d (.dma qr)) 0 0)
      ⊢ iprop(((cred (tallyAt (cell c (.dma qs)) () N) ∗ owe c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma qs) hsc) (.dma qr) hsrc hdst hsem) k) Q) := by
  iintro ⟨#HR, Hn, Hw, ⟨%W, HO⟩, Hts, Htr⟩ Hk
  ihave HI := (rec_at m K c hks) $$ HR
  icases HI with ⟨#HI, #Hr⟩
  ihave HI' := (rec_at m K d hkr) $$ HR
  icases HI' with ⟨#HI', #Hr'⟩
  iapply (Rounds.wp_send_pointsTo 𝒱₀ ER (Rd m) (c : Thread nD τ) none (κ₁ := K (c, ks)) (κ₂ := K (d, kr))
    (r₁ := 0) (r₂ := 0) (d₁ := 0) (d₂ := 0) (fd := fd) hd₁ hd₂
    () () N hN hk₁ hk₂ O hO (W := W) hp₁ hp₂) $$ [Hn Hw HO Hts Htr]
  · isplitr; · iexact HI
    isplitr; · iexact HI'
    isplitl [Hn]; · iexact Hn
    isplitl [Hw]; · iexact Hw
    isplitl [HO]; · iexact HO
    isplitl [Hts]; · iexact Hts
    isplitr; · iexact Hr
    isplitl [Htr]; · iexact Htr
    iexact Hr'
  iintro ⟨Hc, HO⟩
  iapply Hk
  isplitl [Hc]; · iexact Hc
  unfold owe; iexists W; iexact HO

theorem nM_set : (nM : Memref sig .tc .vmem S2x128x256 .bf16).view.set = Finset.univ := View.set_whole _
theorem iM_set : (iM : Memref sig .tc .vmem S256x1 .i32).view.set = Finset.univ := View.set_whole _

/-- Copy `j` of the narrowed experts, to slot `c` of device `n = sh c j`. -/
theorem wp_sendW {α : Type} {Q : α → sProp 𝕄} {k : PUnit → Prog (TpuEff nD τ sig (Elt F) Λ₀ .tc) α}
    (c n : Dev nD) (j : Fin 3) (hn : n = sh c j) {qs qr : DmaSem sig} (hs : qs = sW j) (hr : qr = rW c)
    {hsc : (slW c : Memref sig (Dev.tc n : Thread nD τ).2.kind .vmem S2x128x256 .bf16).view.ref.isScScratch = false}
    {hsrc : (nM : Memref sig .tc .vmem S2x128x256 .bf16).view.WordExact} {hdst : (slW c).view.WordExact}
    {hsem : DmaTarget.Typed .vmem (.dma qr) (.remote (Dev.tc n : Thread nD τ) (slW c) (.dma qs) hsc)}
    (O₀ O : CellTallies nD τ sig Unit) (hO : O₀ = O + payW c j) :
    iprop(records m K ∗ nTok m c j ∗ (∃ fd, wPts (F := F) (sh c j) c fd) ∗ owe c O₀
        ∗ dutyTok ER (sWC c j) 0 0 ∗ dutyTok ER (rWC (sh c j) c) 0 0)
      ⊢ iprop(((cred (tallyAt (sWC c j) () NW) ∗ owe c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma nM (.remote (Dev.tc n : Thread nD τ) (slW c) (.dma qs) hsc) (.dma qr) hsrc hdst hsem) k) Q) := by
  subst hn hs hr
  iintro ⟨#HR, Hn, ⟨%fd, Hw⟩, HO, Hts, Htr⟩ Hk
  unfold nTok wPts JW
  iapply (wp_send_any m K nM (slW c) c (sh c j) (csem_sW j) (csem_rW c) NW rfl
    (by rw [duties_zero m _ _ _ (role_sW j)]; exact Finset.mem_singleton_self _)
    (by rw [duties_zero m _ _ _ (role_rW c)]; show (0 : Fin 3) ∈ (if c = sh c j then (∅ : Finset (Fin 3)) else {0}); rw [if_neg (sh_ne c j).symm]; exact Finset.mem_singleton_self _)
    (amount_of m c _ _ (role_sW j) 0 0) (amount_of m (sh c j) _ _ (role_rW c) 0 0)
    (q := Transfers.shareTok fullShare 3 j) (fs := n16 m c) (fd := fd)
    (by rw [payload_of m _ _ _ (role_sW j)]; exact Entails.of_eq (by unfold rolePay nTok; rw [nM_set]))
    (by rw [payload_of m _ _ _ (role_rW c)]; exact Entails.of_eq (by unfold rolePay wPts; exact pointsTo_congr (landW m (sh c j) c fd))) O₀ O hO) $$ [Hn Hw HO Hts Htr]
  · isplitr; · iexact HR
    isplitl [Hn]; · rw [nM_set]; iexact Hn
    isplitl [Hw]; · iexact Hw
    isplitl [HO]; · iexact HO
    isplitl [Hts]; · iexact Hts
    iexact Htr
  iexact Hk

/-- Copy `j` of the route indices. -/
theorem wp_sendI {α : Type} {Q : α → sProp 𝕄} {k : PUnit → Prog (TpuEff nD τ sig (Elt F) Λ₀ .tc) α}
    (c n : Dev nD) (j : Fin 3) (hn : n = sh c j) {qs qr : DmaSem sig} (hs : qs = sI j) (hr : qr = rI c)
    {hsc : (slI c : Memref sig (Dev.tc n : Thread nD τ).2.kind .vmem S256x1 .i32).view.ref.isScScratch = false}
    {hsrc : (iM : Memref sig .tc .vmem S256x1 .i32).view.WordExact} {hdst : (slI c).view.WordExact}
    {hsem : DmaTarget.Typed .vmem (.dma qr) (.remote (Dev.tc n : Thread nD τ) (slI c) (.dma qs) hsc)}
    (O₀ O : CellTallies nD τ sig Unit) (hO : O₀ = O + payI c j) :
    iprop(records m K ∗ iTok m c j ∗ (∃ fd, iPts (F := F) (sh c j) c fd) ∗ owe c O₀
        ∗ dutyTok ER (sIC c j) 0 0 ∗ dutyTok ER (rIC (sh c j) c) 0 0)
      ⊢ iprop(((cred (tallyAt (sIC c j) () NI) ∗ owe c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma iM (.remote (Dev.tc n : Thread nD τ) (slI c) (.dma qs) hsc) (.dma qr) hsrc hdst hsem) k) Q) := by
  subst hn hs hr
  iintro ⟨#HR, Hn, ⟨%fd, Hw⟩, HO, Hts, Htr⟩ Hk
  unfold iTok iPts JI
  iapply (wp_send_any m K iM (slI c) c (sh c j) (csem_sI j) (csem_rI c) NI rfl
    (by rw [duties_zero m _ _ _ (role_sI j)]; exact Finset.mem_singleton_self _)
    (by rw [duties_zero m _ _ _ (role_rI c)]; show (0 : Fin 3) ∈ (if c = sh c j then (∅ : Finset (Fin 3)) else {0}); rw [if_neg (sh_ne c j).symm]; exact Finset.mem_singleton_self _)
    (amount_of m c _ _ (role_sI j) 0 0) (amount_of m (sh c j) _ _ (role_rI c) 0 0)
    (q := Transfers.shareTok fullShare 3 j) (fs := is m c) (fd := fd)
    (by rw [payload_of m _ _ _ (role_sI j)]; exact Entails.of_eq (by unfold rolePay iTok; rw [iM_set]))
    (by rw [payload_of m _ _ _ (role_rI c)]; exact Entails.of_eq (by unfold rolePay iPts; exact pointsTo_congr (landI m (sh c j) c fd))) O₀ O hO) $$ [Hn Hw HO Hts Htr]
  · isplitr; · iexact HR
    isplitl [Hn]; · rw [iM_set]; iexact Hn
    isplitl [Hw]; · iexact Hw
    isplitl [HO]; · iexact HO
    isplitl [Hts]; · iexact Hts
    iexact Htr
  iexact Hk

end

end Cert.Exchange

end
-- ==== Proof.Body.lean ====
/-
# The body of the kernel, run part by part
-/
module

public import proofs.«01_k».proof.Proof.Steps
public import proofs.«01_k».proof.Proof.Gen.KernelIdeal.Skeleton

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body reads and computes -/

/-- The device's own number, as the kernel computes it. -/
def me (c : Dev nD) : BitVec 32 := Scalar.remsi (Scalar.divsi (Dev.word c) 1#32) 4#32
/-- The number of the device `k` places after it. -/
def pn (c : Dev nD) (k : BitVec 32) : BitVec 32 := Scalar.remsi (Scalar.addi (me c) k) 4#32

abbrev rowR0 : Rect S2x128x256 := Rect.unit (s := S2x128x256) ![0, 0, 0] S1x128x256.size inb_S2x128x256_S1x128x256_0_0_0
abbrev rowR1 : Rect S2x128x256 := Rect.unit (s := S2x128x256) ![1, 0, 0] S1x128x256.size inb_S2x128x256_S1x128x256_1_0_0
/-- The device's own two experts. -/
def row0 (c : Dev nD) : Vec F S1x128x256 .f32 := (wM : Memref sig .tc .vmem S2x128x256 .f32).view.readAt (Elt F) rowR0.toLoadRect (ws m c)
def row1 (c : Dev nD) : Vec F S1x128x256 .f32 := (wM : Memref sig .tc .vmem S2x128x256 .f32).view.readAt (Elt F) rowR1.toLoadRect (ws m c)

abbrev rI6 (c : Dev nD) (r : Fin 3) : Rect S4x256x1 := Rect.unit (s := S4x256x1) (k0_off6 c (BitVec.ofNat 32 (1 + r.val))) S1x256x1.size (k0_off6_inb c r)
abbrev rW8 (c : Dev nD) (r : Fin 3) : Rect S4x2x128x256 := Rect.unit (s := S4x2x128x256) (k0_off8 c (BitVec.ofNat 32 (1 + r.val))) S1x2x128x256.size (k0_off8_inb c r)
/-- The route indices and the narrowed experts of the device `r + 1` places after it, out of their landing slots. -/
def ldI (c : Dev nD) (r : Fin 3) : Vec F S1x256x1 .i32 := ((ciM : Memref sig .tc .vmem S4x256x1 .i32).access (rI6 c r)).read (Elt F) (gI m)
def ldW (c : Dev nD) (r : Fin 3) : Vec F S1x2x128x256 .bf16 := ((cwM : Memref sig .tc .vmem S4x2x128x256 .bf16).access (rW8 c r)).read (Elt F) (gW m)

def o77 (c : Dev nD) : FVec F S256x128 .f32 := k0_pay2 (xs m c)
def o89 (c : Dev nD) : FVec F S256x256 .f32 := k0_pay3 (me c) (xs m c) (is m c) (row0 m c)
def o91 (c : Dev nD) : BitVec 32 := Scalar.addi (Scalar.muli (me c) 2#32) 1#32
def o103 (c : Dev nD) : FVec F S256x256 .f32 := k0_pay4 (o77 m c) (o89 m c) (o91 c) (is m c) (row1 m c)
abbrev o104 : IVec S256x8 32 := iota .tc S256x8 32 [1] iota_S256x8_d1_w32
def o159 (c : Dev nD) : FVec F S1x8 .f32 := k0_pay9 (me c) o104 (k0_pay7 (F := F)) (pn c 1#32) (k0_pay8 (ldI m c 0)) (ldI m c 1)
def o188 (c : Dev nD) : FVec F S256 .f32 := k0_pay10 (me c) o104 (k0_pay5 (is m c)) (k0_pay6 (is m c)) (o159 m c) (pn c 3#32) (ldI m c 2)
def o227 (c : Dev nD) : FVec F S256x256 .f32 :=
  k0_pay13 (o77 m c) (o103 m c) (pn c 1#32) (k0_pay11 (ldW m c 0)) (k0_pay12 (me c) (o77 m c) (is m c)) (is m c)
def o266 (c : Dev nD) : FVec F S256x256 .f32 :=
  k0_pay16 (o77 m c) (o227 m c) (pn c 3#32) (k0_pay14 (ldW m c 2)) (k0_pay15 (me c) (o77 m c) (is m c)) (is m c)
/-- What the body leaves in the result's staging buffer. -/
def outAt (c : Dev nD) : (cc0_stg3_0 : Ref sig .tc).ty.Contents (Elt F) :=
  k0_pay19 (o77 m c) (o188 m c) (o266 m c) (pn c 2#32) (k0_pay17 (ldW m c 1)) (k0_pay18 (me c) (o77 m c) (is m c)) (is m c)

/-! ## The program's spellings of semaphores, slots and loads -/

theorem sem_r8 (c : Dev nD) : ((cc0_scratch4.slice (Rect.unit (s := S4) (k0_off1 c) S1.size (k0_off1_inb c))).squeeze S_ squeezes_S1_S_).sem = rW c := by
  revert c; decide
theorem sem_r10 (c : Dev nD) : ((cc0_scratch6.slice (Rect.unit (s := S4) (k0_off1 c) S1.size (k0_off1_inb c))).squeeze S_ squeezes_S1_S_).sem = rI c := by
  revert c; decide
theorem sem_w8 (c : Dev nD) (r : Fin 3) :
    ((cc0_scratch4.slice (Rect.unit (s := S4) (k0_off4 c (BitVec.ofNat 32 (1 + r.val))) S1.size (k0_off4_inb c r))).squeeze S_ squeezes_S1_S_).sem = rW (sh c r) := by
  revert c r; decide
theorem sem_w10 (c : Dev nD) (r : Fin 3) :
    ((cc0_scratch6.slice (Rect.unit (s := S4) (k0_off4 c (BitVec.ofNat 32 (1 + r.val))) S1.size (k0_off4_inb c r))).squeeze S_ squeezes_S1_S_).sem = rI (sh c r) := by
  revert c r; decide

theorem ldI_sub (c : Dev nD) (r : Fin 3) : ((ciM : Memref sig .tc .vmem S4x256x1 .i32).access (rI6 c r)).set ⊆ JI (sh c r) := by
  intro i hi
  rw [mem_slI]
  have hi' : i ∈ (rI6 c r).set := by rw [← View.set_slice_whole cc0_scratch2 (rI6 c r)]; exact hi
  have h0 := Rect.mem_set_unit.1 hi' 0
  rw [k0_off6_eq c r] at h0
  change (c.val + r.val + 1) % 4 ≤ (i 0).val ∧ (i 0).val < (c.val + r.val + 1) % 4 + 1 at h0
  show (i 0).val = (c.val + r.val + 1) % 4
  omega
theorem ldW_sub (c : Dev nD) (r : Fin 3) : ((cwM : Memref sig .tc .vmem S4x2x128x256 .bf16).access (rW8 c r)).set ⊆ JW (sh c r) := by
  intro i hi
  rw [mem_slW]
  have hi' : i ∈ (rW8 c r).set := by rw [← View.set_slice_whole cc0_scratch1 (rW8 c r)]; exact hi
  have h0 := Rect.mem_set_unit.1 hi' 0
  rw [k0_off8_eq c r] at h0
  change (c.val + r.val + 1) % 4 ≤ (i 0).val ∧ (i 0).val < (c.val + r.val + 1) % 4 + 1 at h0
  show (i 0).val = (c.val + r.val + 1) % 4
  omega

theorem hz2 : (![0, 0] : Fin 2 → Nat) = fun _ => 0 := funext fun a => by fin_cases a <;> rfl
theorem hz3 : (![0, 0, 0] : Fin 3 → Nat) = fun _ => 0 := funext fun a => by fin_cases a <;> rfl
theorem read_x (f : (cc0_stg0_0 : Ref sig .tc).ty.Contents (Elt F)) :
    (xM : Memref sig .tc .vmem S256x128 .f32).view.readAt (Elt F) (Rect.unit (s := S256x128) ![0, 0] S256x128.size inb_S256x128_S256x128_0_0).toLoadRect f = f :=
  Memref.readAt_unit_zero (Elt F) cc0_stg0_0 hz2 _ f
theorem read_i (f : (cc0_stg1_0 : Ref sig .tc).ty.Contents (Elt F)) :
    (iM : Memref sig .tc .vmem S256x1 .i32).view.readAt (Elt F) (Rect.unit (s := S256x1) ![0, 0] S256x1.size inb_S256x1_S256x1_0_0).toLoadRect f = f :=
  Memref.readAt_unit_zero (Elt F) cc0_stg1_0 hz2 _ f
theorem read_w (f : (cc0_stg2_0 : Ref sig .tc).ty.Contents (Elt F)) :
    (wM : Memref sig .tc .vmem S2x128x256 .f32).view.readAt (Elt F) (Rect.unit (s := S2x128x256) ![0, 0, 0] S2x128x256.size inb_S2x128x256_S2x128x256_0_0_0).toLoadRect f = f :=
  Memref.readAt_unit_zero (Elt F) cc0_stg2_0 hz3 _ f
theorem write_n (f w : (cc0_scratch0 : Ref sig .tc).ty.Contents (Elt F)) :
    ((nM : Memref sig .tc .vmem S2x128x256 .bf16).access (Rect.unit (s := S2x128x256) ![0, 0, 0] S2x128x256.size inb_S2x128x256_S2x128x256_0_0_0) : View sig .tc _ _ _).write (Elt F) f w Finset.univ = w :=
  Memref.write_access_unit_zero_univ (Elt F) cc0_scratch0 hz3 _ f w
theorem write_o (f w : (cc0_stg3_0 : Ref sig .tc).ty.Contents (Elt F)) :
    ((oM : Memref sig .tc .vmem S256x256 .f32).access (Rect.unit (s := S256x256) ![0, 0] S256x256.size inb_S256x256_S256x256_0_0) : View sig .tc _ _ _).write (Elt F) f w Finset.univ = w :=
  Memref.write_access_unit_zero_univ (Elt F) cc0_stg3_0 hz2 _ f w

variable (K : Dev nD × Fin 15 → ℕ)

abbrev xPt (c : Dev nD) : sProp 𝕄 := ((c : Thread nD τ).loc cc0_stg0_0) ↦{fullShare} xs m c
abbrev wPt (c : Dev nD) : sProp 𝕄 := ((c : Thread nD τ).loc cc0_stg2_0) ↦{fullShare} ws m c

/-! ## The waits of the exchange -/

/-- A copy's credit is its shape's, wherever it lands. -/
theorem credW {sp : Space} (v : Memref sig .tc sp S2x128x256 .bf16) : v.view.dmaCredit = NW := rfl
theorem credI {sp : Space} (v : Memref sig .tc sp S256x1 .i32) : v.view.dmaCredit = NI := rfl

/-- The wait for the route indices (the narrowed experts) of the device `r + 1` places after. -/
theorem wp_recvI {α : Type} {Q : α → sProp 𝕄} {k : PUnit → Prog (TpuEff nD τ sig (Elt F) Λ₀ .tc) α} (c : Dev nD) (r : Fin 3)
    {q : DmaSem sig} (hq : q = rI (sh c r)) {sp sp' : Space} {s' : Shape} {e' : EltTy} {src : Memref sig .tc sp' s' e'} {dst : Memref sig .tc sp S256x1 .i32}
    {hsrc : src.view.WordExact} {hdst : dst.view.WordExact} :
    iprop(records m K ∗ cred (tallyAt (rIC c (sh c r)) () NI) ∗ owe c 0 ∗ atPos ER (rIC c (sh c r)) 0 ∅ 0)
      ⊢ iprop(((owe c 0 ∗ semVal (rIC c (sh c r)) 0 ∗ iPts c (sh c r) (gI m)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  exact wp_close m K c (csem_rI (sh c r)) (role_rI (sh c r)) (if_neg (sh_ne c r)) rfl (credI dst) _ rfl
theorem wp_recvW {α : Type} {Q : α → sProp 𝕄} {k : PUnit → Prog (TpuEff nD τ sig (Elt F) Λ₀ .tc) α} (c : Dev nD) (r : Fin 3)
    {q : DmaSem sig} (hq : q = rW (sh c r)) {sp sp' : Space} {s' : Shape} {e' : EltTy} {src : Memref sig .tc sp' s' e'} {dst : Memref sig .tc sp S2x128x256 .bf16}
    {hsrc : src.view.WordExact} {hdst : dst.view.WordExact} :
    iprop(records m K ∗ cred (tallyAt (rWC c (sh c r)) () NW) ∗ owe c 0 ∗ atPos ER (rWC c (sh c r)) 0 ∅ 0)
      ⊢ iprop(((owe c 0 ∗ semVal (rWC c (sh c r)) 0 ∗ wPts c (sh c r) (gW m)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  exact wp_close m K c (csem_rW (sh c r)) (role_rW (sh c r)) (if_neg (sh_ne c r)) rfl (credW dst) _ rfl
/-- The waits for the device's own copies to be read out. -/
theorem wp_sentW {α : Type} {Q : α → sProp 𝕄} {k : PUnit → Prog (TpuEff nD τ sig (Elt F) Λ₀ .tc) α} (c : Dev nD) (j : Fin 3)
    {q : DmaSem sig} (hq : q = sW j) {sp sp' : Space} {s' : Shape} {e' : EltTy} {src : Memref sig .tc sp' s' e'} {dst : Memref sig .tc sp S2x128x256 .bf16}
    {hsrc : src.view.WordExact} {hdst : dst.view.WordExact} :
    iprop(records m K ∗ cred (tallyAt (sWC c j) () NW) ∗ owe c 0 ∗ atPos ER (sWC c j) 0 ∅ 0)
      ⊢ iprop(((owe c 0 ∗ semVal (sWC c j) 0 ∗ nTok m c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  exact wp_close m K c (csem_sW j) (role_sW j) rfl rfl (credW dst) _ rfl
theorem wp_sentI {α : Type} {Q : α → sProp 𝕄} {k : PUnit → Prog (TpuEff nD τ sig (Elt F) Λ₀ .tc) α} (c : Dev nD) (j : Fin 3)
    {q : DmaSem sig} (hq : q = sI j) {sp sp' : Space} {s' : Shape} {e' : EltTy} {src : Memref sig .tc sp' s' e'} {dst : Memref sig .tc sp S256x1 .i32}
    {hsrc : src.view.WordExact} {hdst : dst.view.WordExact} :
    iprop(records m K ∗ cred (tallyAt (sIC c j) () NI) ∗ owe c 0 ∗ atPos ER (sIC c j) 0 ∅ 0)
      ⊢ iprop(((owe c 0 ∗ semVal (sIC c j) 0 ∗ iTok m c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  exact wp_close m K c (csem_sI j) (role_sI j) rfl rfl (credI dst) _ rfl

/-! ## The parts -/

theorem part1 (c : Dev nD) (Q : _ → sProp 𝕄) (fw : Buf (Elt F) ((c : Thread nD τ).loc cc0_scratch1)) (fi : Buf (Elt F) ((c : Thread nD τ).loc cc0_scratch2)) (fn : Buf (Elt F) ((c : Thread nD τ).loc cc0_scratch0)) :
    iprop((records m K ∗ levAts L lv ∗ cred (tallyAt (barC c) () 3) ∗ owe c (O₀ c) ∗ atPos ER (barC c) 0 ∅ 0
        ∗ (dutyTok ER (barC (sh c 0)) 0 (op 0) ∗ dutyTok ER (barC (sh c 1)) 0 (op 1) ∗ dutyTok ER (barC (sh c 2)) 0 (op 2))
        ∗ (wPts c (sh c 0) fw ∗ wPts c (sh c 1) fw ∗ wPts c (sh c 2) fw) ∗ (iPts c (sh c 0) fi ∗ iPts c (sh c 1) fi ∗ iPts c (sh c 2) fi)
        ∗ wPt m c ∗ (((c : Thread nD τ).loc cc0_scratch0) ↦{fullShare} fn))
      ∗ ((owe c (O₁ c) ∗ semVal (barC c) 0 ∗ barPay (F := F) c 0 ∗ barPay (F := F) c 1 ∗ barPay (F := F) c 2 ∗ wPt m c
          ∗ (((c : Thread nD τ).loc cc0_scratch0) ↦{fullShare} n16 m c)) -∗ Q ⟨c, me c, pn c 1#32, Scalar.muli (pn c 1#32) 1#32⟩))
      ⊢ wp frame (wpE (defs₀ (F := F)) 𝒱₀ (c : Thread nD τ) none) Set.univ (k0_part1 (F := F) xM (Memref.isWhole_whole _) iM (Memref.isWhole_whole _) wM (Memref.isWhole_whole _) oM (Memref.isWhole_whole _) nM (Memref.isWhole_whole _) cwM (Memref.isWhole_whole _) ciM (Memref.isWhole_whole _) cc0_scratch3 cc0_scratch4 cc0_scratch5 cc0_scratch6) Q := by
  rw [k0_part1_eq_skeleton]; unfold k0_part1_skel pn me
  simp only [semSignalWord, semWaitWord, Prog.lift, Prog.bind_op, Prog.bind_ret, Prog.pure_eq_ret, wp_deviceId]
  iintro ⟨⟨#HR, #Hlev, Hc, HO, Hat, ⟨Ht0, Ht1, Ht2⟩, ⟨Hw0, Hw1, Hw2⟩, ⟨Hi0, Hi1, Hi2⟩, Hw, Hn⟩, HQ⟩
  iapply (wp_sig m K c _ 0 (dev1_eq c) (O₀ c) (O₁ c + payB c 2 + payB c 1) rfl fw fi) $$ [HO Ht0 Hw0 Hi0]
  · isplitr; · iexact HR
    isplitl [HO]; · iexact HO
    isplitl [Ht0]; · iexact Ht0
    isplitl [Hw0] <;> iassumption
  iintro HO
  iapply (wp_sig m K c _ 1 (dev2_eq c) (O₁ c + payB c 2 + payB c 1) (O₁ c + payB c 2) rfl fw fi) $$ [HO Ht1 Hw1 Hi1]
  · isplitr; · iexact HR
    isplitl [HO]; · iexact HO
    isplitl [Ht1]; · iexact Ht1
    isplitl [Hw1] <;> iassumption
  iintro HO
  iapply (wp_sig m K c _ 2 (dev3_eq c) (O₁ c + payB c 2) (O₁ c) rfl fw fi) $$ [HO Ht2 Hw2 Hi2]
  · isplitr; · iexact HR
    isplitl [HO]; · iexact HO
    isplitl [Ht2]; · iexact Ht2
    isplitl [Hw2] <;> iassumption
  iintro HO
  iapply (wp_bar m K c) $$ [Hc HO Hat]
  · isplitr; · iexact HR
    isplitr; · iexact Hlev
    isplitl [Hc]; · iexact Hc
    isplitl [HO] <;> iassumption
  iintro ⟨HO, Hz, Hp0, Hp1, Hp2⟩
  iapply (wp_load 𝒱₀ (c : Thread nD τ) none Set.univ (m := wM) (Finset.subset_univ _)) $$ Hw; iintro Hw
  rw [read_w]
  iapply (wp_load 𝒱₀ (c : Thread nD τ) none Set.univ (m := nM) (Finset.subset_univ _)) $$ Hn; iintro Hn
  iapply (wp_store 𝒱₀ (c : Thread nD τ) none Set.univ (m := nM) (r := Rect.unit (s := S2x128x256) ![0, 0, 0] S2x128x256.size inb_S2x128x256_S2x128x256_0_0_0) (Mk := Finset.univ) (Finset.subset_univ _)) $$ Hn; iintro Hn
  rw [write_n, wp_ret]; imodintro
  iapply HQ
  isplitl [HO]; · iexact HO
  isplitl [Hz]; · iexact Hz
  isplitl [Hp0]; · iexact Hp0
  isplitl [Hp1]; · iexact Hp1
  isplitl [Hp2]; · iexact Hp2
  isplitl [Hw]; · iexact Hw
  iexact Hn

/-- The four tokens of the two copies to the device `j + 1` places after. -/
def sendTok (c : Dev nD) (j : Fin 3) : sProp 𝕄 :=
  iprop(dutyTok ER (sWC c j) 0 0 ∗ dutyTok ER (rWC (sh c j) c) 0 0 ∗ dutyTok ER (sIC c j) 0 0 ∗ dutyTok ER (rIC (sh c j) c) 0 0)
/-- What the two copies to it start from, and the credit they leave on their own semaphores. -/
def sendPre (c : Dev nD) (j : Fin 3) : sProp 𝕄 := iprop(nTok m c j ∗ iTok m c j ∗ barPay (F := F) c j ∗ sendTok c j)
def sendPost (c : Dev nD) (j : Fin 3) : sProp 𝕄 := iprop(cred (tallyAt (sWC c j) () NW) ∗ cred (tallyAt (sIC c j) () NI))

/-- The two copies to one device, one after the other. -/
theorem wp_pair {α : Type} {Q : α → sProp 𝕄} {k : PUnit → Prog (TpuEff nD τ sig (Elt F) Λ₀ .tc) α} (c n n' : Dev nD) (j : Fin 3)
    (hn : n = sh c j) (hn' : n' = sh c j) {qs qr qs' qr' : DmaSem sig} (hs : qs = sW j) (hr : qr = rW c) (hs' : qs' = sI j) (hr' : qr' = rI c)
    {hsc : (slW c : Memref sig (Dev.tc n : Thread nD τ).2.kind .vmem S2x128x256 .bf16).view.ref.isScScratch = false}
    {hsrc : (nM : Memref sig .tc .vmem S2x128x256 .bf16).view.WordExact} {hdst : (slW c).view.WordExact}
    {hsem : DmaTarget.Typed .vmem (.dma qr) (.remote (Dev.tc n : Thread nD τ) (slW c) (.dma qs) hsc)}
    {hsc' : (slI c : Memref sig (Dev.tc n' : Thread nD τ).2.kind .vmem S256x1 .i32).view.ref.isScScratch = false}
    {hsrc' : (iM : Memref sig .tc .vmem S256x1 .i32).view.WordExact} {hdst' : (slI c).view.WordExact}
    {hsem' : DmaTarget.Typed .vmem (.dma qr') (.remote (Dev.tc n' : Thread nD τ) (slI c) (.dma qs') hsc')}
    (O : CellTallies nD τ sig Unit) :
    iprop(records m K ∗ sendPre m c j ∗ owe c (O + payI c j + payW c j))
      ⊢ iprop(((sendPost c j ∗ owe c O) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma nM (.remote (Dev.tc n : Thread nD τ) (slW c) (.dma qs) hsc) (.dma qr) hsrc hdst hsem) fun _ =>
              .op (.enqueueDma iM (.remote (Dev.tc n' : Thread nD τ) (slI c) (.dma qs') hsc') (.dma qr') hsrc' hdst' hsem') k) Q) := by
  unfold sendPre sendPost sendTok barPay
  iintro ⟨#HR, ⟨Hn, Hi, ⟨Hw, Hv⟩, ⟨Ht1, Ht2, Ht3, Ht4⟩⟩, HO⟩ Hk
  iapply (wp_sendW m K c n j hn hs hr _ (O + payI c j) rfl) $$ [Hn Hw HO Ht1 Ht2]
  · isplitr; · iexact HR
    isplitl [Hn]; · iexact Hn
    isplitl [Hw]; · iexact Hw
    isplitl [HO]; · iexact HO
    isplitl [Ht1] <;> iassumption
  iintro ⟨Hc, HO⟩
  iapply (wp_sendI m K c n' j hn' hs' hr' _ O rfl) $$ [Hi Hv HO Ht3 Ht4]
  · isplitr; · iexact HR
    isplitl [Hi]; · iexact Hi
    isplitl [Hv]; · iexact Hv
    isplitl [HO]; · iexact HO
    isplitl [Ht3] <;> iassumption
  iintro ⟨Hc', HO⟩
  iapply Hk
  isplitl [Hc Hc']
  · isplitl [Hc] <;> iassumption
  iexact HO

theorem part2 (c : Dev nD) (v2 v23 v24 : BitVec 32) (Q : _ → sProp 𝕄) :
    iprop((records m K ∗ sendPre m c 0 ∗ sendPre m c 1 ∗ owe c (O₁ c))
      ∗ ((sendPost c 0 ∗ sendPost c 1 ∗ owe c (0 + payI c 2 + payW c 2)) -∗ Q 3#32))
      ⊢ wp frame (wpE (defs₀ (F := F)) 𝒱₀ (c : Thread nD τ) none) Set.univ (k0_part2 (F := F) xM (Memref.isWhole_whole _) iM (Memref.isWhole_whole _) wM (Memref.isWhole_whole _) oM (Memref.isWhole_whole _) nM (Memref.isWhole_whole _) cwM (Memref.isWhole_whole _) ciM (Memref.isWhole_whole _) cc0_scratch3 cc0_scratch4 cc0_scratch5 cc0_scratch6 c v2 v23 v24) Q := by
  rw [k0_part2_eq_skeleton]; unfold k0_part2_skel O₁
  simp only [semSignalWord, semWaitWord, Prog.lift, Prog.bind_op, Prog.bind_ret, Prog.pure_eq_ret, wp_deviceId]
  iintro ⟨⟨#HR, H0, H1, HO⟩, HQ⟩
  iapply (wp_pair m K c _ _ 0 (dev4_eq c) (dev5_eq c) rfl (sem_r8 c) rfl (sem_r10 c) (0 + payI c 2 + payW c 2 + payI c 1 + payW c 1)) $$ [H0 HO]
  · isplitr; · iexact HR
    isplitl [H0] <;> iassumption
  iintro ⟨Hc0, HO⟩
  iapply (wp_pair m K c _ _ 1 (dev6_eq c) (dev7_eq c) rfl (sem_r8 c) rfl (sem_r10 c) (0 + payI c 2 + payW c 2)) $$ [H1 HO]
  · isplitr; · iexact HR
    isplitl [H1] <;> iassumption
  iintro ⟨Hc1, HO⟩
  rw [wp_ret]; imodintro
  iapply HQ
  isplitl [Hc0]; · iexact Hc0
  isplitl [Hc1] <;> iassumption

theorem part3 (c : Dev nD) (w : BitVec 32) (Q : _ → sProp 𝕄) :
    iprop((records m K ∗ sendPre m c 2 ∗ owe c (0 + payI c 2 + payW c 2) ∗ xPt m c ∗ iKeep m c ∗ wPt m c)
      ∗ ((sendPost c 2 ∗ owe c 0 ∗ xPt m c ∗ iKeep m c ∗ wPt m c) -∗ Q ⟨o77 m c, o89 m c, o91 c⟩))
      ⊢ wp frame (wpE (defs₀ (F := F)) 𝒱₀ (c : Thread nD τ) none) Set.univ (k0_part3 (F := F) xM (Memref.isWhole_whole _) iM (Memref.isWhole_whole _) wM (Memref.isWhole_whole _) oM (Memref.isWhole_whole _) nM (Memref.isWhole_whole _) cwM (Memref.isWhole_whole _) ciM (Memref.isWhole_whole _) cc0_scratch3 cc0_scratch4 cc0_scratch5 cc0_scratch6 c (me c) w) Q := by
  rw [k0_part3_eq_skeleton]; unfold k0_part3_skel iKeep o77 o89 o91 row0
  simp only [semSignalWord, semWaitWord, Prog.lift, Prog.bind_op, Prog.bind_ret, Prog.pure_eq_ret, wp_deviceId]
  iintro ⟨⟨#HR, H2, HO, Hx, Hi, Hw⟩, HQ⟩
  iapply (wp_pair m K c _ _ 2 (dev8_eq c) (dev9_eq c) rfl (sem_r8 c) rfl (sem_r10 c) 0) $$ [H2 HO]
  · isplitr; · iexact HR
    isplitl [H2] <;> iassumption
  iintro ⟨Hc2, HO⟩
  iapply (wp_load 𝒱₀ (c : Thread nD τ) none Set.univ (m := xM) (Finset.subset_univ _)) $$ Hx; iintro Hx
  rw [read_x]
  iapply (wp_load 𝒱₀ (c : Thread nD τ) none Set.univ (m := iM) (Finset.subset_univ _)) $$ Hi; iintro Hi
  rw [read_i]
  iapply (wp_load 𝒱₀ (c : Thread nD τ) none Set.univ (m := wM) (Finset.subset_univ _)) $$ Hw; iintro Hw
  rw [wp_ret]; imodintro
  iapply HQ
  isplitl [Hc2]; · iexact Hc2
  isplitl [HO]; · iexact HO
  isplitl [Hx]; · iexact Hx
  isplitl [Hi] <;> iassumption

/-- What a wait on a slot's semaphore starts from, and what it leaves. -/
def recvIPre (c : Dev nD) (r : Fin 3) : sProp 𝕄 := iprop(cred (tallyAt (rIC c (sh c r)) () NI) ∗ atPos ER (rIC c (sh c r)) 0 ∅ 0)
def recvIPost (c : Dev nD) (r : Fin 3) : sProp 𝕄 := iprop(semVal (rIC c (sh c r)) 0 ∗ iPts c (sh c r) (gI m))
def recvWPre (c : Dev nD) (r : Fin 3) : sProp 𝕄 := iprop(cred (tallyAt (rWC c (sh c r)) () NW) ∗ atPos ER (rWC c (sh c r)) 0 ∅ 0)
def recvWPost (c : Dev nD) (r : Fin 3) : sProp 𝕄 := iprop(semVal (rWC c (sh c r)) 0 ∗ wPts c (sh c r) (gW m))

/-- A load of a filled slot. -/
theorem wp_ldI {α : Type} {Q : α → sProp 𝕄} {k : Vec F S1x256x1 .i32 → Prog (TpuEff nD τ sig (Elt F) Λ₀ .tc) α} (c : Dev nD) (r : Fin 3)
    {hl : (ciM : Memref sig .tc .vmem S4x256x1 .i32).view.LoadsAt (rI6 c r).toLoadRect} :
    recvIPost (F := F) m c r ⊢ iprop((recvIPost m c r -∗ wp frame (wpE (defs₀ (F := F)) 𝒱₀ (c : Thread nD τ) none) Set.univ (k (ldI m c r)) Q) -∗ wp frame (wpE (defs₀ (F := F)) 𝒱₀ (c : Thread nD τ) none) Set.univ (.op (.load ciM (rI6 c r).toLoadRect hl) k) Q) := by
  unfold recvIPost iPts
  iintro ⟨Hz, Hi⟩ Hk
  iapply (wp_load_rect 𝒱₀ (c : Thread nD τ) none Set.univ (m := ciM) (r := rI6 c r) (ldI_sub c r)) $$ Hi; iintro Hi
  iapply Hk
  isplitl [Hz] <;> iassumption
theorem wp_ldW {α : Type} {Q : α → sProp 𝕄} {k : Vec F S1x2x128x256 .bf16 → Prog (TpuEff nD τ sig (Elt F) Λ₀ .tc) α} (c : Dev nD) (r : Fin 3)
    {hl : (cwM : Memref sig .tc .vmem S4x2x128x256 .bf16).view.LoadsAt (rW8 c r).toLoadRect} :
    recvWPost (F := F) m c r ⊢ iprop((recvWPost m c r -∗ wp frame (wpE (defs₀ (F := F)) 𝒱₀ (c : Thread nD τ) none) Set.univ (k (ldW m c r)) Q) -∗ wp frame (wpE (defs₀ (F := F)) 𝒱₀ (c : Thread nD τ) none) Set.univ (.op (.load cwM (rW8 c r).toLoadRect hl) k) Q) := by
  unfold recvWPost wPts
  iintro ⟨Hz, Hi⟩ Hk
  iapply (wp_load_rect 𝒱₀ (c : Thread nD τ) none Set.univ (m := cwM) (r := rW8 c r) (ldW_sub c r)) $$ Hi; iintro Hi
  iapply Hk
  isplitl [Hz] <;> iassumption

theorem part4 (c : Dev nD) (Q : _ → sProp 𝕄) :
    iprop((records m K ∗ recvIPre c 0 ∗ owe c 0 ∗ iKeep m c ∗ wPt m c)
      ∗ ((recvIPost m c 0 ∗ owe c 0 ∗ iKeep m c ∗ wPt m c)
          -∗ Q ⟨o103 m c, o104, k0_pay5 (is m c), k0_pay6 (is m c), k0_pay7 (F := F), pn c 1#32, k0_pay8 (ldI m c 0)⟩))
      ⊢ wp frame (wpE (defs₀ (F := F)) 𝒱₀ (c : Thread nD τ) none) Set.univ (k0_part4 (F := F) xM (Memref.isWhole_whole _) iM (Memref.isWhole_whole _) wM (Memref.isWhole_whole _) oM (Memref.isWhole_whole _) nM (Memref.isWhole_whole _) cwM (Memref.isWhole_whole _) ciM (Memref.isWhole_whole _) cc0_scratch3 cc0_scratch4 cc0_scratch5 cc0_scratch6 c (me c) (o77 m c) (o89 m c) (o91 c)) Q := by
  rw [k0_part4_eq_skeleton]; unfold k0_part4_skel iKeep recvIPre pn o103 row1
  simp only [semSignalWord, semWaitWord, Prog.lift, Prog.bind_op, Prog.bind_ret, Prog.pure_eq_ret, wp_deviceId]
  iintro ⟨⟨#HR, ⟨Hc, Hat⟩, HO, Hi, Hw⟩, HQ⟩
  iapply (wp_load 𝒱₀ (c : Thread nD τ) none Set.univ (m := iM) (Finset.subset_univ _)) $$ Hi; iintro Hi
  rw [read_i]
  iapply (wp_load 𝒱₀ (c : Thread nD τ) none Set.univ (m := wM) (Finset.subset_univ _)) $$ Hw; iintro Hw
  iapply (wp_load 𝒱₀ (c : Thread nD τ) none Set.univ (m := iM) (Finset.subset_univ _)) $$ Hi; iintro Hi
  rw [read_i]
  iapply (wp_recvI m K c 0 (sem_w10 c 0)) $$ [Hc HO Hat]
  · isplitr; · iexact HR
    isplitl [Hc]; · iexact Hc
    isplitl [HO] <;> iassumption
  iintro ⟨HO, Hp⟩
  iapply (wp_ldI m c 0) $$ [Hp]; · unfold recvIPost; iexact Hp
  iintro Hp
  rw [wp_ret]; imodintro
  iapply HQ
  isplitl [Hp]; · iexact Hp
  isplitl [HO]; · iexact HO
  isplitl [Hi] <;> iassumption

theorem part5 (c : Dev nD) (Q : _ → sProp 𝕄) :
    iprop((records m K ∗ recvIPre c 1 ∗ recvIPre c 2 ∗ owe c 0)
      ∗ ((recvIPost m c 1 ∗ recvIPost m c 2 ∗ owe c 0) -∗ Q ⟨o159 m c, pn c 3#32⟩))
      ⊢ wp frame (wpE (defs₀ (F := F)) 𝒱₀ (c : Thread nD τ) none) Set.univ (k0_part5 (F := F) xM (Memref.isWhole_whole _) iM (Memref.isWhole_whole _) wM (Memref.isWhole_whole _) oM (Memref.isWhole_whole _) nM (Memref.isWhole_whole _) cwM (Memref.isWhole_whole _) ciM (Memref.isWhole_whole _) cc0_scratch3 cc0_scratch4 cc0_scratch5 cc0_scratch6 c (me c) o104 (k0_pay7 (F := F)) (pn c 1#32) (k0_pay8 (ldI m c 0))) Q := by
  rw [k0_part5_eq_skeleton]; unfold k0_part5_skel recvIPre o159 pn
  simp only [semSignalWord, semWaitWord, Prog.lift, Prog.bind_op, Prog.bind_ret, Prog.pure_eq_ret, wp_deviceId]
  iintro ⟨⟨#HR, ⟨Hc1, Hat1⟩, ⟨Hc2, Hat2⟩, HO⟩, HQ⟩
  iapply (wp_recvI m K c 1 (sem_w10 c 1)) $$ [Hc1 HO Hat1]
  · isplitr; · iexact HR
    isplitl [Hc1]; · iexact Hc1
    isplitl [HO] <;> iassumption
  iintro ⟨HO, Hp1⟩
  iapply (wp_ldI m c 1) $$ [Hp1]; · unfold recvIPost; iexact Hp1
  iintro Hp1
  iapply (wp_recvI m K c 2 (sem_w10 c 2)) $$ [Hc2 HO Hat2]
  · isplitr; · iexact HR
    isplitl [Hc2]; · iexact Hc2
    isplitl [HO] <;> iassumption
  iintro ⟨HO, Hp2⟩
  rw [wp_ret]; imodintro
  iapply HQ
  isplitl [Hp1]; · iexact Hp1
  isplitl [Hp2]; · unfold recvIPost; iexact Hp2
  iexact HO

theorem part6 (c : Dev nD) (Q : _ → sProp 𝕄) :
    iprop((records m K ∗ recvIPost m c 2 ∗ recvWPre c 0 ∗ owe c 0 ∗ iKeep m c)
      ∗ ((recvIPost m c 2 ∗ recvWPost m c 0 ∗ owe c 0 ∗ iKeep m c)
          -∗ Q ⟨o188 m c, pn c 1#32, k0_pay11 (ldW m c 0), k0_pay12 (me c) (o77 m c) (is m c)⟩))
      ⊢ wp frame (wpE (defs₀ (F := F)) 𝒱₀ (c : Thread nD τ) none) Set.univ (k0_part6 (F := F) xM (Memref.isWhole_whole _) iM (Memref.isWhole_whole _) wM (Memref.isWhole_whole _) oM (Memref.isWhole_whole _) nM (Memref.isWhole_whole _) cwM (Memref.isWhole_whole _) ciM (Memref.isWhole_whole _) cc0_scratch3 cc0_scratch4 cc0_scratch5 cc0_scratch6 c (me c) (o77 m c) o104 (k0_pay5 (is m c)) (k0_pay6 (is m c)) (o159 m c) (pn c 3#32)) Q := by
  rw [k0_part6_eq_skeleton]; unfold k0_part6_skel recvWPre o188 iKeep pn
  simp only [semSignalWord, semWaitWord, Prog.lift, Prog.bind_op, Prog.bind_ret, Prog.pure_eq_ret, wp_deviceId]
  iintro ⟨⟨#HR, Hp2, ⟨Hc, Hat⟩, HO, Hi⟩, HQ⟩
  iapply (wp_ldI m c 2) $$ Hp2; iintro Hp2
  iapply (wp_recvW m K c 0 (sem_w8 c 0)) $$ [Hc HO Hat]
  · isplitr; · iexact HR
    isplitl [Hc]; · iexact Hc
    isplitl [HO] <;> iassumption
  iintro ⟨HO, Hp⟩
  iapply (wp_ldW m c 0) $$ [Hp]; · unfold recvWPost; iexact Hp
  iintro Hp
  iapply (wp_load 𝒱₀ (c : Thread nD τ) none Set.univ (m := iM) (Finset.subset_univ _)) $$ Hi; iintro Hi
  rw [read_i, wp_ret]; imodintro
  iapply HQ
  isplitl [Hp2]; · iexact Hp2
  isplitl [Hp]; · iexact Hp
  isplitl [HO] <;> iassumption

theorem part7 (c : Dev nD) (Q : _ → sProp 𝕄) :
    iprop((records m K ∗ recvWPre c 2 ∗ owe c 0 ∗ iKeep m c)
      ∗ ((recvWPost m c 2 ∗ owe c 0 ∗ iKeep m c)
          -∗ Q ⟨o227 m c, pn c 3#32, k0_pay14 (ldW m c 2), k0_pay15 (me c) (o77 m c) (is m c)⟩))
      ⊢ wp frame (wpE (defs₀ (F := F)) 𝒱₀ (c : Thread nD τ) none) Set.univ (k0_part7 (F := F) xM (Memref.isWhole_whole _) iM (Memref.isWhole_whole _) wM (Memref.isWhole_whole _) oM (Memref.isWhole_whole _) nM (Memref.isWhole_whole _) cwM (Memref.isWhole_whole _) ciM (Memref.isWhole_whole _) cc0_scratch3 cc0_scratch4 cc0_scratch5 cc0_scratch6 c (me c) (o77 m c) (o103 m c) (pn c 1#32) (k0_pay11 (ldW m c 0)) (k0_pay12 (me c) (o77 m c) (is m c))) Q := by
  rw [k0_part7_eq_skeleton]; unfold k0_part7_skel recvWPre o227 iKeep pn
  simp only [semSignalWord, semWaitWord, Prog.lift, Prog.bind_op, Prog.bind_ret, Prog.pure_eq_ret, wp_deviceId]
  iintro ⟨⟨#HR, ⟨Hc, Hat⟩, HO, Hi⟩, HQ⟩
  iapply (wp_load 𝒱₀ (c : Thread nD τ) none Set.univ (m := iM) (Finset.subset_univ _)) $$ Hi; iintro Hi
  rw [read_i]
  iapply (wp_recvW m K c 2 (sem_w8 c 2)) $$ [Hc HO Hat]
  · isplitr; · iexact HR
    isplitl [Hc]; · iexact Hc
    isplitl [HO] <;> iassumption
  iintro ⟨HO, Hp⟩
  iapply (wp_ldW m c 2) $$ [Hp]; · unfold recvWPost; iexact Hp
  iintro Hp
  iapply (wp_load 𝒱₀ (c : Thread nD τ) none Set.univ (m := iM) (Finset.subset_univ _)) $$ Hi; iintro Hi
  rw [read_i, wp_ret]; imodintro
  iapply HQ
  isplitl [Hp]; · iexact Hp
  isplitl [HO] <;> iassumption

theorem part8 (c : Dev nD) (Q : _ → sProp 𝕄) :
    iprop((records m K ∗ recvWPre c 1 ∗ owe c 0 ∗ iKeep m c)
      ∗ ((recvWPost m c 1 ∗ owe c 0 ∗ iKeep m c)
          -∗ Q ⟨o266 m c, pn c 2#32, k0_pay17 (ldW m c 1), k0_pay18 (me c) (o77 m c) (is m c)⟩))
      ⊢ wp frame (wpE (defs₀ (F := F)) 𝒱₀ (c : Thread nD τ) none) Set.univ (k0_part8 (F := F) xM (Memref.isWhole_whole _) iM (Memref.isWhole_whole _) wM (Memref.isWhole_whole _) oM (Memref.isWhole_whole _) nM (Memref.isWhole_whole _) cwM (Memref.isWhole_whole _) ciM (Memref.isWhole_whole _) cc0_scratch3 cc0_scratch4 cc0_scratch5 cc0_scratch6 c (me c) (o77 m c) (o227 m c) (pn c 3#32) (k0_pay14 (ldW m c 2)) (k0_pay15 (me c) (o77 m c) (is m c))) Q := by
  rw [k0_part8_eq_skeleton]; unfold k0_part8_skel recvWPre o266 iKeep pn
  simp only [semSignalWord, semWaitWord, Prog.lift, Prog.bind_op, Prog.bind_ret, Prog.pure_eq_ret, wp_deviceId]
  iintro ⟨⟨#HR, ⟨Hc, Hat⟩, HO, Hi⟩, HQ⟩
  iapply (wp_load 𝒱₀ (c : Thread nD τ) none Set.univ (m := iM) (Finset.subset_univ _)) $$ Hi; iintro Hi
  rw [read_i]
  iapply (wp_recvW m K c 1 (sem_w8 c 1)) $$ [Hc HO Hat]
  · isplitr; · iexact HR
    isplitl [Hc]; · iexact Hc
    isplitl [HO] <;> iassumption
  iintro ⟨HO, Hp⟩
  iapply (wp_ldW m c 1) $$ [Hp]; · unfold recvWPost; iexact Hp
  iintro Hp
  iapply (wp_load 𝒱₀ (c : Thread nD τ) none Set.univ (m := iM) (Finset.subset_univ _)) $$ Hi; iintro Hi
  rw [read_i, wp_ret]; imodintro
  iapply HQ
  isplitl [Hp]; · iexact Hp
  isplitl [HO] <;> iassumption

/-- What a wait on one of its own sends starts from, and what it leaves. -/
def sentWPre (c : Dev nD) (j : Fin 3) : sProp 𝕄 := iprop(cred (tallyAt (sWC c j) () NW) ∗ atPos ER (sWC c j) 0 ∅ 0)
def sentWPost (c : Dev nD) (j : Fin 3) : sProp 𝕄 := iprop(semVal (sWC c j) 0 ∗ nTok m c j)
def sentIPre (c : Dev nD) (j : Fin 3) : sProp 𝕄 := iprop(cred (tallyAt (sIC c j) () NI) ∗ atPos ER (sIC c j) 0 ∅ 0)
def sentIPost (c : Dev nD) (j : Fin 3) : sProp 𝕄 := iprop(semVal (sIC c j) 0 ∗ iTok m c j)

theorem wp_sentW' {α : Type} {Q : α → sProp 𝕄} {k : PUnit → Prog (TpuEff nD τ sig (Elt F) Λ₀ .tc) α} (c : Dev nD) (j : Fin 3)
    {q : DmaSem sig} (hq : q = sW j) {sp sp' : Space} {s' : Shape} {e' : EltTy} {src : Memref sig .tc sp' s' e'} {dst : Memref sig .tc sp S2x128x256 .bf16}
    {hsrc : src.view.WordExact} {hdst : dst.view.WordExact} :
    iprop(records m K ∗ sentWPre c j ∗ owe c 0)
      ⊢ iprop(((sentWPost m c j ∗ owe c 0) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 q src dst hsrc hdst) k) Q) := by
  unfold sentWPre sentWPost
  iintro ⟨#HR, ⟨Hc, Hat⟩, HO⟩ Hk
  iapply (wp_sentW m K c j hq) $$ [Hc HO Hat]
  · isplitr; · iexact HR
    isplitl [Hc]; · iexact Hc
    isplitl [HO] <;> iassumption
  iintro ⟨HO, Hp⟩
  iapply Hk
  isplitl [Hp] <;> iassumption
theorem wp_sentI' {α : Type} {Q : α → sProp 𝕄} {k : PUnit → Prog (TpuEff nD τ sig (Elt F) Λ₀ .tc) α} (c : Dev nD) (j : Fin 3)
    {q : DmaSem sig} (hq : q = sI j) {sp sp' : Space} {s' : Shape} {e' : EltTy} {src : Memref sig .tc sp' s' e'} {dst : Memref sig .tc sp S256x1 .i32}
    {hsrc : src.view.WordExact} {hdst : dst.view.WordExact} :
    iprop(records m K ∗ sentIPre c j ∗ owe c 0)
      ⊢ iprop(((sentIPost m c j ∗ owe c 0) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 q src dst hsrc hdst) k) Q) := by
  unfold sentIPre sentIPost
  iintro ⟨#HR, ⟨Hc, Hat⟩, HO⟩ Hk
  iapply (wp_sentI m K c j hq) $$ [Hc HO Hat]
  · isplitr; · iexact HR
    isplitl [Hc]; · iexact Hc
    isplitl [HO] <;> iassumption
  iintro ⟨HO, Hp⟩
  iapply Hk
  isplitl [Hp] <;> iassumption

theorem part9 (c : Dev nD) (Q : _ → sProp 𝕄) (fo : Buf (Elt F) ((c : Thread nD τ).loc cc0_stg3_0)) :
    iprop((records m K ∗ sentWPre c 0 ∗ sentIPre c 0 ∗ sentWPre c 1 ∗ owe c 0 ∗ iKeep m c ∗ (((c : Thread nD τ).loc cc0_stg3_0) ↦{fullShare} fo))
      ∗ ((sentWPost m c 0 ∗ sentIPost m c 0 ∗ sentWPost m c 1 ∗ owe c 0 ∗ iKeep m c ∗ (((c : Thread nD τ).loc cc0_stg3_0) ↦{fullShare} outAt m c)) -∗ Q ⟨⟩))
      ⊢ wp frame (wpE (defs₀ (F := F)) 𝒱₀ (c : Thread nD τ) none) Set.univ (k0_part9 (F := F) xM (Memref.isWhole_whole _) iM (Memref.isWhole_whole _) wM (Memref.isWhole_whole _) oM (Memref.isWhole_whole _) nM (Memref.isWhole_whole _) cwM (Memref.isWhole_whole _) ciM (Memref.isWhole_whole _) cc0_scratch3 cc0_scratch4 cc0_scratch5 cc0_scratch6 c (o77 m c) (o188 m c) (o266 m c) (pn c 2#32) (k0_pay17 (ldW m c 1)) (k0_pay18 (me c) (o77 m c) (is m c))) Q := by
  rw [k0_part9_eq_skeleton]; unfold k0_part9_skel iKeep
  simp only [semSignalWord, semWaitWord, Prog.lift, Prog.bind_op, Prog.bind_ret, Prog.pure_eq_ret, wp_deviceId]
  iintro ⟨⟨#HR, H0, H1, H2, HO, Hi, Ho⟩, HQ⟩
  iapply (wp_load 𝒱₀ (c : Thread nD τ) none Set.univ (m := iM) (Finset.subset_univ _)) $$ Hi; iintro Hi
  rw [read_i]
  iapply (wp_load 𝒱₀ (c : Thread nD τ) none Set.univ (m := oM) (Finset.subset_univ _)) $$ Ho; iintro Ho
  iapply (wp_store 𝒱₀ (c : Thread nD τ) none Set.univ (m := oM) (r := Rect.unit (s := S256x256) ![0, 0] S256x256.size inb_S256x256_S256x256_0_0) (Mk := Finset.univ) (Finset.subset_univ _)) $$ Ho; iintro Ho
  rw [write_o]
  iapply (wp_sentW' m K c 0 rfl) $$ [H0 HO]
  · isplitr; · iexact HR
    isplitl [H0] <;> iassumption
  iintro ⟨H0, HO⟩
  iapply (wp_sentI' m K c 0 rfl) $$ [H1 HO]
  · isplitr; · iexact HR
    isplitl [H1] <;> iassumption
  iintro ⟨H1, HO⟩
  iapply (wp_sentW' m K c 1 rfl) $$ [H2 HO]
  · isplitr; · iexact HR
    isplitl [H2] <;> iassumption
  iintro ⟨H2, HO⟩
  rw [wp_ret]; imodintro
  iapply HQ
  isplitl [H0]; · iexact H0
  isplitl [H1]; · iexact H1
  isplitl [H2]; · iexact H2
  isplitl [HO]; · iexact HO
  isplitl [Hi]; · iexact Hi
  iexact Ho

end Cert.Exchange

end
-- ==== Proof.Whole.lean ====
/-
# The body of the kernel as a whole, and the pipeline's obligation
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The narrowed experts and the staged route indices, dealt to the copies -/

theorem n_split (c : Dev nD) : (((c : Thread nD τ).loc cc0_scratch0) ↦{fullShare} n16 m c : sProp 𝕄) ⊢ iprop(nKeep m c ∗ nTok m c 0 ∗ nTok m c 1 ∗ nTok m c 2) :=
  (Transfers.pointsTo_toks_split fullShare 3).trans (Entails.of_eq (by rw [bigSep_three]; rfl))
theorem n_join (c : Dev nD) : iprop(nKeep m c ∗ nTok m c 0 ∗ nTok m c 1 ∗ nTok m c 2) ⊢ (((c : Thread nD τ).loc cc0_scratch0) ↦{fullShare} n16 m c : sProp 𝕄) :=
  (Entails.of_eq (by rw [bigSep_three]; rfl)).trans (Transfers.pointsTo_toks_join fullShare 3)
theorem i_split (c : Dev nD) : (((c : Thread nD τ).loc cc0_stg1_0) ↦{fullShare} is m c : sProp 𝕄) ⊢ iprop(iKeep m c ∗ iTok m c 0 ∗ iTok m c 1 ∗ iTok m c 2) :=
  (Transfers.pointsTo_toks_split fullShare 3).trans (Entails.of_eq (by rw [bigSep_three]; rfl))
theorem i_join (c : Dev nD) : iprop(iKeep m c ∗ iTok m c 0 ∗ iTok m c 1 ∗ iTok m c 2) ⊢ (((c : Thread nD τ).loc cc0_stg1_0) ↦{fullShare} is m c : sProp 𝕄) :=
  (Entails.of_eq (by rw [bigSep_three]; rfl)).trans (Transfers.pointsTo_toks_join fullShare 3)

/-! ## What a device starts from and ends with -/

/-- For the device `j + 1` places after: its positions on the four semaphores of that exchange, and the tokens it pays there. -/
def own3 (c : Dev nD) (j : Fin 3) : sProp 𝕄 :=
  iprop(atPos ER (rWC c (sh c j)) 0 ∅ 0 ∗ atPos ER (rIC c (sh c j)) 0 ∅ 0 ∗ atPos ER (sWC c j) 0 ∅ 0 ∗ atPos ER (sIC c j) 0 ∅ 0
    ∗ dutyTok ER (barC (sh c j)) 0 (op j) ∗ sendTok c j)
/-- The credit of the two copies from there. -/
def credR (c : Dev nD) (j : Fin 3) : sProp 𝕄 := iprop(cred (tallyAt (rWC c (sh c j)) () NW) ∗ cred (tallyAt (rIC c (sh c j)) () NI))

def linear (c : Dev nD) : sProp 𝕄 :=
  iprop(atPos ER (barC c) 0 ∅ 0 ∗ atPos ER (rWC c c) 0 ∅ 0 ∗ atPos ER (rIC c c) 0 ∅ 0 ∗ own3 c 0 ∗ own3 c 1 ∗ own3 c 2)
def ghost (K : Dev nD × Fin 15 → ℕ) (c : Dev nD) : sProp 𝕄 := iprop(records m K ∗ linear c)

def start (c : Dev nD) : sProp 𝕄 :=
  iprop((∃ K, ghost m K c) ∗ cred (tallyAt (barC c) () 3) ∗ (credR c 0 ∗ credR c 1 ∗ credR c 2) ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The four semaphores of the exchange with one device, at zero. -/
def zero3 (c : Dev nD) (j : Fin 3) : sProp 𝕄 :=
  iprop(semVal (rWC c (sh c j)) 0 ∗ semVal (rIC c (sh c j)) 0 ∗ semVal (sWC c j) 0 ∗ semVal (sIC c j) 0)

def Φ₀ (c : Dev nD) : sProp 𝕄 := iprop(start m c ∗ scratch c)
def Φ₁ (c : Dev nD) : sProp 𝕄 :=
  iprop(scratch c ∗ semVal (barC c) 0 ∗ semVal (rWC c c) 0 ∗ semVal (rIC c c) 0 ∗ zero3 c 0 ∗ zero3 c 1 ∗ zero3 c 2)

def dats (_ : Fin 1) (c : Dev nD) : Dat τ (Elt F) Unit ℕ UU ℕ cfg0 c where
  A w := V m c (Pipeline.arrRef spec0 w)
  after w _ := match w with
    | ⟨0, _⟩ => xs m c
    | ⟨1, _⟩ => is m c
    | ⟨2, _⟩ => ws m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The exchange itself, from the staged blocks to the result. -/
theorem run_body (c : Dev nD) (fo : Buf (Elt F) ((c : Thread nD τ).loc cc0_stg3_0)) (Kt : PUnit → sProp 𝕄) :
    iprop((Φ₀ m c ∗ owe c (O₀ c) ∗ xPt m c ∗ (((c : Thread nD τ).loc cc0_stg1_0) ↦{fullShare} is m c) ∗ wPt m c
        ∗ (((c : Thread nD τ).loc cc0_stg3_0) ↦{fullShare} fo))
      ∗ ((Φ₁ c ∗ owe c 0 ∗ xPt m c ∗ (((c : Thread nD τ).loc cc0_stg1_0) ↦{fullShare} is m c) ∗ wPt m c
        ∗ (((c : Thread nD τ).loc cc0_stg3_0) ↦{fullShare} outAt m c)) -∗ Kt ⟨⟩))
      ⊢ wp frame (wpE (defs₀ (F := F)) 𝒱₀ (c : Thread nD τ) none) Set.univ (cc0_body (F := F) xM (Memref.isWhole_whole _) iM (Memref.isWhole_whole _) wM (Memref.isWhole_whole _) oM (Memref.isWhole_whole _) nM (Memref.isWhole_whole _) cwM (Memref.isWhole_whole _) ciM (Memref.isWhole_whole _) cc0_scratch3 cc0_scratch4 cc0_scratch5 cc0_scratch6) Kt := by
  rw [cc0_body_eq_skeleton]; unfold cc0_body_skel
  unfold Φ₀ start scratch ghost linear own3 credR
  iintro ⟨⟨⟨⟨⟨%K, #HR, HaB, HaW, HaI, ⟨Ha1, Ha2, Ha3, Ha4, HtB0, Hs0⟩, ⟨Hb1, Hb2, Hb3, Hb4, HtB1, Hs1⟩, ⟨Hc1, Hc2, Hc3, Hc4, HtB2, Hs2⟩⟩, HcB,
      ⟨⟨Hrw0, Hri0⟩, ⟨Hrw1, Hri1⟩, ⟨Hrw2, Hri2⟩⟩, #Hlev⟩, ⟨%f0, Hn⟩, ⟨%f1, Hcw⟩, ⟨%f2, Hci⟩⟩, HO, Hx, Hi, Hw, Ho⟩, HK⟩
  ihave Hcw' := (Entails.of_eq (wPts_split c f1)) $$ Hcw
  icases Hcw' with ⟨Hwo, Hw0, Hw1, Hw2⟩
  ihave Hci' := (Entails.of_eq (iPts_split c f2)) $$ Hci
  icases Hci' with ⟨Hvo, Hv0, Hv1, Hv2⟩
  rw [wp_bind]
  iapply (part1 m K c _ f1 f2 f0)
  isplitl [HcB HO HaB HtB0 HtB1 HtB2 Hw0 Hw1 Hw2 Hv0 Hv1 Hv2 Hw Hn]
  · isplitr
    · iexact HR
    isplitr
    · iexact Hlev
    iframe
  iintro ⟨HO, HzB, Hp0, Hp1, Hp2, Hw, Hn⟩
  try dsimp only
  ihave Hn' := (n_split m c) $$ Hn
  icases Hn' with ⟨Hn, Hn0, Hn1, Hn2⟩
  ihave Hi' := (i_split m c) $$ Hi
  icases Hi' with ⟨Hi, Hi0, Hi1, Hi2⟩
  rw [wp_bind]
  iapply (part2 m K c _ _ _ _)
  isplitl [HO Hn0 Hn1 Hi0 Hi1 Hp0 Hp1 Hs0 Hs1]
  · unfold sendPre
    isplitr
    · iexact HR
    isplitl [Hn0 Hi0 Hp0 Hs0]
    · iframe
    isplitl [Hn1 Hi1 Hp1 Hs1]
    · iframe
    iexact HO
  unfold sendPost
  iintro ⟨⟨Hsw0, Hsi0⟩, ⟨Hsw1, Hsi1⟩, HO⟩
  try dsimp only
  rw [wp_bind]
  iapply (part3 m K c _ _)
  isplitl [HO Hn2 Hi2 Hp2 Hs2 Hx Hi Hw]
  · unfold sendPre
    isplitr
    · iexact HR
    isplitl [Hn2 Hi2 Hp2 Hs2]
    · iframe
    iframe
  unfold sendPost
  iintro ⟨⟨Hsw2, Hsi2⟩, HO, Hx, Hi, Hw⟩
  try dsimp only
  rw [wp_bind]
  iapply (part4 m K c _)
  isplitl [HO Hri0 Ha2 Hi Hw]
  · unfold recvIPre
    isplitr
    · iexact HR
    isplitl [Hri0 Ha2]
    · iframe
    iframe
  iintro ⟨Hr0, HO, Hi, Hw⟩
  try dsimp only
  rw [wp_bind]
  iapply (part5 m K c _)
  isplitl [HO Hri1 Hb2 Hri2 Hc2]
  · unfold recvIPre
    isplitr
    · iexact HR
    isplitl [Hri1 Hb2]
    · iframe
    isplitl [Hri2 Hc2]
    · iframe
    iexact HO
  iintro ⟨Hr1, Hr2, HO⟩
  try dsimp only
  rw [wp_bind]
  iapply (part6 m K c _)
  isplitl [HO Hr2 Hrw0 Ha1 Hi]
  · unfold recvWPre
    isplitr
    · iexact HR
    isplitl [Hr2]
    · iexact Hr2
    isplitl [Hrw0 Ha1]
    · iframe
    iframe
  iintro ⟨Hr2, Hq0, HO, Hi⟩
  try dsimp only
  rw [wp_bind]
  iapply (part7 m K c _)
  isplitl [HO Hrw2 Hc1 Hi]
  · unfold recvWPre
    isplitr
    · iexact HR
    isplitl [Hrw2 Hc1]
    · iframe
    iframe
  iintro ⟨Hq2, HO, Hi⟩
  try dsimp only
  rw [wp_bind]
  iapply (part8 m K c _)
  isplitl [HO Hrw1 Hb1 Hi]
  · unfold recvWPre
    isplitr
    · iexact HR
    isplitl [Hrw1 Hb1]
    · iframe
    iframe
  iintro ⟨Hq1, HO, Hi⟩
  try dsimp only
  rw [wp_bind]
  iapply (part9 m K c _ fo)
  isplitl [HO Hsw0 Ha3 Hsi0 Ha4 Hsw1 Hb3 Hi Ho]
  · unfold sentWPre sentIPre
    isplitr
    · iexact HR
    isplitl [Hsw0 Ha3]
    · iframe
    isplitl [Hsi0 Ha4]
    · iframe
    isplitl [Hsw1 Hb3]
    · iframe
    iframe
  iintro ⟨He0, Hh0, He1, HO, Hi, Ho⟩
  try dsimp only
  simp only [semSignalWord, semWaitWord, Prog.lift, Prog.bind_op, Prog.bind_ret, Prog.pure_eq_ret]
  iapply (wp_sentI' m K c 1 rfl) $$ [Hsi1 Hb4 HO]
  · unfold sentIPre
    isplitr
    · iexact HR
    iframe
  iintro ⟨Hh1, HO⟩
  iapply (wp_sentW' m K c 2 rfl) $$ [Hsw2 Hc3 HO]
  · unfold sentWPre
    isplitr
    · iexact HR
    iframe
  iintro ⟨He2, HO⟩
  iapply (wp_sentI' m K c 2 rfl) $$ [Hsi2 Hc4 HO]
  · unfold sentIPre
    isplitr
    · iexact HR
    iframe
  iintro ⟨Hh2, HO⟩
  rw [wp_ret]
  unfold sentWPost sentIPost recvWPost recvIPost
  icases He0 with ⟨Hz1, Hn0⟩
  icases He1 with ⟨Hz2, Hn1⟩
  icases He2 with ⟨Hz3, Hn2⟩
  icases Hh0 with ⟨Hy1, Hi0⟩
  icases Hh1 with ⟨Hy2, Hi1⟩
  icases Hh2 with ⟨Hy3, Hi2⟩
  icases Hq0 with ⟨Hx1, Hw0⟩
  icases Hq1 with ⟨Hx2, Hw1⟩
  icases Hq2 with ⟨Hx3, Hw2⟩
  icases Hr0 with ⟨Ht1, Hv0⟩
  icases Hr1 with ⟨Ht2, Hv1⟩
  icases Hr2 with ⟨Ht3, Hv2⟩
  imod (Rounds.cell_close ER (Rd m) (Set.mem_univ (K (c, krW c))) (fun h => h) (R := 0) (duties_own m c _ (Or.inl (role_rW c)))) $$ [HaW] with HzW
  · isplitr
    · ihave Hrec := (rec_at m K c (csem_rW c)) $$ HR
      icases Hrec with ⟨#Hinv, -⟩
      iexact Hinv
    iexact HaW
  imod (Rounds.cell_close ER (Rd m) (Set.mem_univ (K (c, krI c))) (fun h => h) (R := 0) (duties_own m c _ (Or.inr (role_rI c)))) $$ [HaI] with HzI
  · isplitr
    · ihave Hrec := (rec_at m K c (csem_rI c)) $$ HR
      icases Hrec with ⟨#Hinv, -⟩
      iexact Hinv
    iexact HaI
  imodintro
  iapply HK
  ihave Hn := (n_join m c) $$ [Hn Hn0 Hn1 Hn2]
  · iframe
  ihave Hi := (i_join m c) $$ [Hi Hi0 Hi1 Hi2]
  · iframe
  ihave Hcw := (wPts_join m c f1) $$ [Hwo Hw0 Hw1 Hw2]
  · iframe
  ihave Hci := (iPts_join m c f2) $$ [Hvo Hv0 Hv1 Hv2]
  · iframe
  unfold Φ₁ scratch zero3
  isplitl [Hn Hcw Hci HzB HzW HzI Hz1 Hz2 Hz3 Hy1 Hy2 Hy3 Hx1 Hx2 Hx3 Ht1 Ht2 Ht3]
  · isplitl [Hn Hcw Hci]
    · isplitl [Hn]
      · iexists _; iexact Hn
      isplitl [Hcw]
      · iexact Hcw
      iexact Hci
    iframe
  iframe

/-- The library's form of it: what a device's body is given, -/
def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
/-- and what it must give back. -/
def bodyPost (c : Dev nD) : sProp 𝕄 :=
  iprop(Φ₁ c ∗ (dats m 0 c).owesAt () t0_0.succ ∗ stg c cc0_stg0_0 (xs m c) ∗ stg c cc0_stg1_0 (is m c) ∗ stg c cc0_stg2_0 (ws m c) ∗ stg c cc0_stg3_0 (outAt m c))

theorem sound_body (c : Dev nD) : bodyPre m c ⊢ wp frame (wpE (defs₀ (F := F)) 𝒱₀ (c : Thread nD τ) none) Set.univ (cc0_body (F := F) xM (Memref.isWhole_whole _) iM (Memref.isWhole_whole _) wM (Memref.isWhole_whole _) oM (Memref.isWhole_whole _) nM (Memref.isWhole_whole _) cwM (Memref.isWhole_whole _) ciM (Memref.isWhole_whole _) cc0_scratch3 cc0_scratch4 cc0_scratch5 cc0_scratch6) (fun _ => bodyPost m c) := by
  unfold bodyPre bodyPost Dat.owesAt Pipeline.owesWithin
  rw [show (dats m 0 c).owed t0_0.castSucc = O₀ c from rfl, show (dats m 0 c).owed t0_0.succ = 0 from rfl]
  iintro ⟨HΦ, ⟨%W, %hW, HO⟩, ⟨%d0, %g0, %hg0, Hx⟩, ⟨%d1, %g1, %hg1, Hi⟩, ⟨%d2, %g2, %hg2, Hw⟩, ⟨%d3, %g3, %hg3, Ho⟩⟩
  have hx : g0 = xs m c := by rw [hg0]; unfold Dat.before; rw [if_pos (fetch0_0 t0_0)]; rfl
  have hi : g1 = is m c := by rw [hg1]; unfold Dat.before; rw [if_pos (fetch0_1 t0_0)]; rfl
  have hw : g2 = ws m c := by rw [hg2]; unfold Dat.before; rw [if_pos (fetch0_2 t0_0)]; rfl
  subst hx hi hw
  iapply (run_body m c g3 _)
  isplitl [HΦ HO Hx Hi Hw Ho]
  · isplitl [HΦ]
    · iexact HΦ
    isplitl [HO]
    · unfold owe
      iexists W; iexact HO
    iframe
  iintro ⟨HΦ, ⟨%W', HO⟩, Hx, Hi, Hw, Ho⟩
  isplitl [HΦ]
  · iexact HΦ
  isplitl [HO]
  · iexists W'
    isplitr
    · ipureintro; exact fun _ _ => Or.inl trivial
    iexact HO
  isplitl [Hx]
  · iexists _; isplitr
    · ipureintro; rfl
    iexact Hx
  isplitl [Hi]
  · iexists _; isplitr
    · ipureintro; rfl
    iexact Hi
  isplitl [Hw]
  · iexists _; isplitr
    · ipureintro; rfl
    iexact Hw
  iexists _; isplitr
  · ipureintro; rfl
  iexact Ho

set_option maxRecDepth 4000 in
/-- The pipeline's obligation for the body, on every device. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact sound_body m c

end Cert.Exchange

end
-- ==== Proof.Launch.lean ====
/-
# The launch: what every device is dealt, and the run of the whole program
-/
module

public import proofs.«01_k».proof.Proof.Whole
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of a device, met from it -/

/-- The kernel's own fourteen in the order used here: the two of the own slots, then the four of each exchange. -/
def order (c : Dev nD) : List (Fin 14) :=
  let r (s : Dev nD) : Fin 14 := ⟨3 + s.val, by have : s.val < 4 := s.isLt; omega⟩
  let q (s : Dev nD) : Fin 14 := ⟨10 + s.val, by have : s.val < 4 := s.isLt; omega⟩
  [r c, q c, r (sh c 0), q (sh c 0), 0, 7, r (sh c 1), q (sh c 1), 1, 8, r (sh c 2), q (sh c 2), 2, 9]

/-- The same semaphores by what they are for. -/
def semList (c : Dev nD) : List (SemLoc sig) :=
  [.dma (rW c), .dma (rI c), .dma (rW (sh c 0)), .dma (rI (sh c 0)), .dma (sW 0), .dma (sI 0),
    .dma (rW (sh c 1)), .dma (rI (sh c 1)), .dma (sW 1), .dma (sI 1), .dma (rW (sh c 2)), .dma (rI (sh c 2)), .dma (sW 2), .dma (sI 2)]
theorem order_map (c : Dev nD) : (order c).map osem = semList c := by revert c; decide

theorem bigSepL_map {I J : Type} (l : List I) (f : I → J) (Φ : J → sProp 𝕄) : bigSepL l (fun i => Φ (f i)) = bigSepL (l.map f) Φ := by
  induction l with
  | nil => rfl
  | cons a l ih => cases l with
    | nil => rfl
    | cons b l => exact congrArg (fun P => BI.sep (Φ (f a)) P) ih

/-- Something held for each of them. -/
def held (c : Dev nD) (Φ : SemLoc sig → sProp 𝕄) : sProp 𝕄 := bigSepL (semList c) Φ
def held3 (c : Dev nD) (j : Fin 3) (Φ : SemLoc sig → sProp 𝕄) : sProp 𝕄 :=
  iprop(Φ (.dma (rW (sh c j))) ∗ Φ (.dma (rI (sh c j))) ∗ Φ (.dma (sW j)) ∗ Φ (.dma (sI j)))

theorem held_eq (c : Dev nD) (Φ : SemLoc sig → sProp 𝕄) :
    held c Φ = iprop(Φ (.dma (rW c)) ∗ Φ (.dma (rI c)) ∗ Φ (.dma (rW (sh c 0))) ∗ Φ (.dma (rI (sh c 0))) ∗ Φ (.dma (sW 0)) ∗ Φ (.dma (sI 0))
      ∗ Φ (.dma (rW (sh c 1))) ∗ Φ (.dma (rI (sh c 1))) ∗ Φ (.dma (sW 1)) ∗ Φ (.dma (sI 1))
      ∗ Φ (.dma (rW (sh c 2))) ∗ Φ (.dma (rI (sh c 2))) ∗ Φ (.dma (sW 2)) ∗ Φ (.dma (sI 2))) := rfl
theorem held_iff (c : Dev nD) (Φ : SemLoc sig → sProp 𝕄) :
    held c Φ ⊣⊢ iprop(Φ (.dma (rW c)) ∗ Φ (.dma (rI c)) ∗ held3 c 0 Φ ∗ held3 c 1 Φ ∗ held3 c 2 Φ) := by
  rw [held_eq]
  unfold held3
  constructor
  · iintro ⟨H1, H2, H3, H4, H5, H6, H7, H8, H9, Ha, Hb, Hc, Hd, He⟩
    iframe
  · iintro ⟨H1, H2, ⟨H3, H4, H5, H6⟩, ⟨H7, H8, H9, Ha⟩, ⟨Hb, Hc, Hd, He⟩⟩
    iframe

theorem own_held (c : Dev nD) : (Pipeline.ownSems0 (Ix := Unit) (Name := ℕ) (U := UU) (Lvl := ℕ) (Val := Elt F) (τ := τ) osem c : sProp 𝕄)
    = held c (fun sm => semVal (cell c sm) 0) := by
  rw [Pipeline.ownSems0_eq_of_list c osem (order c) (by revert c; decide) (by revert c; decide)]
  unfold held
  rw [← order_map c]
  exact bigSepL_map (order c) osem (fun sm => semVal (cell c sm) 0)

theorem unscoped_eq (c : Dev nD) : (unscopedSems0 c : sProp 𝕄) = semVal (barC c) 0 := by
  unfold unscopedSems0; rw [bigSep_eq_bigSepL_of_eq [SemLoc.reg barS] (by decide) (by decide)]; rfl

theorem cells_held (c : Dev nD) (Φ : SemLoc sig → sProp 𝕄) :
    bigSep Finset.univ (fun k : Fin 15 => Φ (csem k)) = iprop(Φ (.reg barS) ∗ held c Φ) := by
  rw [bigSep_univ_eq_bigSepL (0 :: (order c).map Fin.succ) (by revert c; decide) (by revert c; decide)]
  unfold held
  rw [← order_map c, ← bigSepL_map]
  show BI.sep (Φ (csem 0)) (bigSepL ((order c).map Fin.succ) fun k => Φ (csem k)) = _
  rw [← bigSepL_map (order c) Fin.succ (fun k => Φ (csem k))]
  rfl

theorem csem_injective : Function.Injective csem := by decide +kernel
theorem kcell_injective : Function.Injective (kcell : Dev nD × Fin 15 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-! ## The tokens -/

/-- A device's own tokens as minted, five for each exchange: which semaphore, which duty. -/
def tsem (c : Dev nD) (i : Fin 3) : Fin 5 → SemLoc sig
  | 0 => .reg barS | 1 => .dma (rW (sh c (op i))) | 2 => .dma (rI (sh c (op i))) | 3 => .dma (sW i) | 4 => .dma (sI i)
def tdut (i : Fin 3) : Fin 5 → Fin 3
  | 0 => op i | _ => 0
def tokOf (x : Dev nD × Fin 3 × Fin 5) : GSem nD τ sig × ℕ × Fin 3 := (cell x.1 (tsem x.1 x.2.1 x.2.2), 0, tdut x.2.1 x.2.2)
theorem tok_injective (c : Dev nD) : Function.Injective fun x : Fin 3 × Fin 5 => (tsem c x.1 x.2, tdut x.1 x.2) := by
  revert c; decide +kernel
theorem tokOf_injective : Function.Injective tokOf := by
  rintro ⟨c, x⟩ ⟨c', x'⟩ h
  have h1 : c = c' := congrArg (fun y : GSem nD τ sig × ℕ × Fin 3 => y.1.1.1) h
  subst h1
  have h2 : x = x' := tok_injective c (congrArg (fun y : GSem nD τ sig × ℕ × Fin 3 => (y.1.2, y.2.2)) h)
  rw [h2]
def allToks : Finset (GSem nD τ sig × ℕ × Fin 3) := Finset.univ.map ⟨tokOf, tokOf_injective⟩

def toks3 (c : Dev nD) (i : Fin 3) : sProp 𝕄 :=
  iprop(dutyTok ER (barC c) 0 (op i) ∗ dutyTok ER (rWC c (sh c (op i))) 0 0 ∗ dutyTok ER (rIC c (sh c (op i))) 0 0
    ∗ dutyTok ER (sWC c i) 0 0 ∗ dutyTok ER (sIC c i) 0 0)
def toks (c : Dev nD) : sProp 𝕄 := bigSep Finset.univ fun i : Fin 3 => toks3 c i
def payToks3 (c : Dev nD) (i : Fin 3) : sProp 𝕄 := iprop(dutyTok ER (barC (sh c i)) 0 (op i) ∗ sendTok c i)

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The tokens dealt around: those of a device's barrier and of its slots go to the device that pays there. -/
theorem toks_around (i : Fin 3) : (bigSep Finset.univ fun c : Dev nD => (toks3 c i : sProp 𝕄)) ⊢ bigSep Finset.univ fun c : Dev nD => payToks3 c i := by
  unfold toks3 payToks3 sendTok
  simp only [bigSep_sep']
  rw [bigSep_univ_equiv (rot i) (fun c : Dev nD => (dutyTok ER (barC c) 0 (op i) : sProp 𝕄)),
    bigSep_univ_equiv (rot i) (fun c : Dev nD => (dutyTok ER (rWC c (sh c (op i))) 0 0 : sProp 𝕄)),
    bigSep_univ_equiv (rot i) (fun c : Dev nD => (dutyTok ER (rIC c (sh c (op i))) 0 0 : sProp 𝕄))]
  have hs : ∀ c : Dev nD, sh (rot i c) (op i) = c := fun c => sh_op c i
  simp only [hs]
  iintro ⟨H1, H2, H3, H4, H5⟩
  isplitl [H1]
  · iexact H1
  isplitl [H4]
  · iexact H4
  isplitl [H2]
  · iexact H2
  isplitl [H5]
  · iexact H5
  iexact H3

/-! ## What the launch deals -/

def u₀ : UU := (initOf (Pipeline.cells cfgs cellOf_inj) (Pipeline.launchToks cfgs cellOf_inj), initOf allCells allToks)

def G (c : Dev nD) : sProp 𝕄 :=
  iprop((bigSep Finset.univ fun k : Fin 15 => roundState ER (Rd m) (kcell (c, k)) 0)
    ∗ (bigSep Finset.univ fun k : Fin 15 => iprop(atPos ER (kcell (c, k)) 0 ∅ 0 ∗ reached ER (kcell (c, k)) 0)) ∗ toks c)
def G' (c : Dev nD) : sProp 𝕄 := iprop(∃ K, ghost m K c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 15 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_prod]
    exact bigSep_congr fun i _ => by unfold toks3; rw [bigSep_five]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']
  · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  rw [own_held, unscoped_eq]
  iintro ⟨Hos, Hus, Hst, Hat, Htok⟩
  ihave Hv := (Entails.of_eq (cells_held (F := F) c (fun sm => semVal (cell c sm) 0)).symm) $$ [Hos Hus]
  · isplitl [Hus] <;> iassumption
  imod (show iprop((bigSep Finset.univ fun k : Fin 15 => semVal (cell c (csem k)) 0) ∗ bigSep Finset.univ fun k : Fin 15 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]
  · iexact Hinv
  isplitl [Hat]
  · iexact Hat
  iexact Htok

/-- One device's share of all that. -/
theorem linear_intro (c : Dev nD) :
    iprop((bigSep Finset.univ fun k : Fin 15 => atPos ER (kcell (c, k)) 0 ∅ 0) ∗ payToks3 c 0 ∗ payToks3 c 1 ∗ payToks3 c 2) ⊢ (linear c : sProp 𝕄) := by
  iintro ⟨Hat, Ht0, Ht1, Ht2⟩
  ihave Hat := (show (bigSep Finset.univ fun k : Fin 15 => atPos ER (kcell (c, k)) 0 ∅ 0) ⊢ _ from
    Entails.of_eq (cells_held (F := F) c (fun sm => atPos ER (cell c sm) 0 ∅ 0))) $$ Hat
  icases Hat with ⟨HaB, Hat⟩
  ihave Hat := (held_iff (F := F) c _).1 $$ Hat
  unfold held3 payToks3
  icases Hat with ⟨HaW, HaI, ⟨Ha1, Ha2, Ha3, Ha4⟩, ⟨Hb1, Hb2, Hb3, Hb4⟩, ⟨Hc1, Hc2, Hc3, Hc4⟩⟩
  icases Ht0 with ⟨Ht0, Hs0⟩
  icases Ht1 with ⟨Ht1, Hs1⟩
  icases Ht2 with ⟨Ht2, Hs2⟩
  unfold linear own3
  iframe

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 15 => iprop(∃ κ : ℕ, cellInv ER (Rd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  unfold toks
  simp only [bigSep_three, bigSep_sep']
  iintro ⟨HI, ⟨Hat, #HR⟩, Ht0, Ht1, Ht2⟩
  ihave HK := (BI.bigSep_exists_pi Finset.univ (fun (ck : Dev nD × Fin 15) (κ : ℕ) => (cellInv ER (Rd m) κ (kcell ck) : sProp 𝕄))) $$ HI
  icases HK with ⟨%K, #HI⟩
  ihave Ht0 := (toks_around (F := F) 0) $$ Ht0
  ihave Ht1 := (toks_around (F := F) 1) $$ Ht1
  ihave Ht2 := (toks_around (F := F) 2) $$ Ht2
  iapply (with_records (R := records m K) (Φ := fun c => linear c) fun c _ => show iprop(records m K ∗ linear c) ⊢ G' m c from by
    unfold G' ghost
    iintro ⟨H1, H2⟩
    iexists K
    isplitl [H1] <;> iassumption)
  isplitr
  · unfold records
    rw [bigSep_sep']
    isplitl
    · iexact HI
    iexact HR
  · iapply (show iprop((bigSep Finset.univ fun c : Dev nD => bigSep Finset.univ fun k : Fin 15 => atPos ER (kcell (c, k)) 0 ∅ 0)
        ∗ (bigSep Finset.univ fun c : Dev nD => payToks3 c 0) ∗ (bigSep Finset.univ fun c : Dev nD => payToks3 c 1) ∗ (bigSep Finset.univ fun c : Dev nD => payToks3 c 2))
        ⊢ (bigSep Finset.univ linear : sProp 𝕄) from by
      rw [← bigSep_sep', ← bigSep_sep', ← bigSep_sep']
      exact bigSep_mono fun c _ => linear_intro c)
    isplitl [Hat]
    · iexact Hat
    isplitl [Ht0]
    · iexact Ht0
    isplitl [Ht1] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of the launch -/

theorem bar_iff {a b : Dev nD} : (barC a = barC b) ↔ a = b := ⟨fun h => congrArg (fun g : GSem nD τ sig => g.1.1) h, fun h => h ▸ rfl⟩
theorem rW_inj : Function.Injective rW := by decide +kernel
theorem rI_inj : Function.Injective rI := by decide +kernel
theorem rW_iff {a s b t : Dev nD} : (rWC a s = rWC b t) ↔ a = b ∧ s = t :=
  ⟨fun h => ⟨congrArg (fun g : GSem nD τ sig => g.1.1) h, rW_inj (SemLoc.dma.inj (congrArg Prod.snd h))⟩, fun ⟨h, h'⟩ => h ▸ h' ▸ rfl⟩
theorem rI_iff {a s b t : Dev nD} : (rIC a s = rIC b t) ↔ a = b ∧ s = t :=
  ⟨fun h => ⟨congrArg (fun g : GSem nD τ sig => g.1.1) h, rI_inj (SemLoc.dma.inj (congrArg Prod.snd h))⟩, fun ⟨h, h'⟩ => h ▸ h' ▸ rfl⟩
theorem role_ne {a b : Dev nD} {s t : SemLoc sig} (h : role s ≠ role t) : ¬ cell a s = cell b t := fun h' => h (congrArg role (congrArg Prod.snd h'))

theorem owed_bar (d c : Dev nD) : O₀ d (barC c) () = (if c = sh d 2 then 1 else 0) + (if c = sh d 1 then 1 else 0) + (if c = sh d 0 then 1 else 0) := by
  have hW : ∀ a s, ¬ barC c = rWC a s := fun a s => role_ne (by rw [role_bar, role_rW]; exact Role.noConfusion)
  have hI : ∀ a s, ¬ barC c = rIC a s := fun a s => role_ne (by rw [role_bar, role_rI]; exact Role.noConfusion)
  simp only [O₀, O₁, payB, payW, payI, Pi.add_apply, Finsupp.add_apply, tallyAt_apply, hW, hI, bar_iff, false_and, and_true, if_false, Pi.zero_apply,
    Finsupp.zero_apply, Nat.zero_add]
theorem owed_rW (d c s : Dev nD) : O₀ d (rWC c s) () = (if c = sh d 2 ∧ s = d then NW else 0) + (if c = sh d 1 ∧ s = d then NW else 0) + (if c = sh d 0 ∧ s = d then NW else 0) := by
  have hB : ∀ a, ¬ rWC c s = barC a := fun a => role_ne (by rw [role_bar, role_rW]; exact Role.noConfusion)
  have hI : ∀ a t, ¬ rWC c s = rIC a t := fun a t => role_ne (by rw [role_rW, role_rI]; exact Role.noConfusion)
  simp only [O₀, O₁, payB, payW, payI, Pi.add_apply, Finsupp.add_apply, tallyAt_apply, hB, hI, rW_iff, false_and, and_true, if_false, Pi.zero_apply,
    Finsupp.zero_apply, Nat.zero_add, Nat.add_zero]
theorem owed_rI (d c s : Dev nD) : O₀ d (rIC c s) () = (if c = sh d 2 ∧ s = d then NI else 0) + (if c = sh d 1 ∧ s = d then NI else 0) + (if c = sh d 0 ∧ s = d then NI else 0) := by
  have hB : ∀ a, ¬ rIC c s = barC a := fun a => role_ne (by rw [role_bar, role_rI]; exact Role.noConfusion)
  have hW : ∀ a t, ¬ rIC c s = rWC a t := fun a t => role_ne (by rw [role_rW, role_rI]; exact Role.noConfusion)
  simp only [O₀, O₁, payB, payW, payI, Pi.add_apply, Finsupp.add_apply, tallyAt_apply, hB, hW, rI_iff, false_and, and_true, if_false, Pi.zero_apply,
    Finsupp.zero_apply, Nat.zero_add, Nat.add_zero]

theorem sum_bar (c : Dev nD) : (∑ d : Dev nD, ((if c = sh d 2 then 1 else 0) + (if c = sh d 1 then 1 else 0) + (if c = sh d 0 then 1 else 0) : ℕ)) = 3 := by
  revert c; decide +kernel
theorem one_of (c : Dev nD) (r : Fin 3) : ∀ N : ℕ, (if c = sh (sh c r) 2 then N else 0) + (if c = sh (sh c r) 1 then N else 0) + (if c = sh (sh c r) 0 then N else 0) = N := by
  have h : ∀ j : Fin 3, c = sh (sh c r) j ↔ j = op r := fun j => by revert c r j; decide
  intro N
  simp only [h]
  revert r; intro r h; fin_cases r <;> simp [op, Fin.rev]
theorem sum_recv (c : Dev nD) (r : Fin 3) (N : ℕ) :
    (∑ d : Dev nD, ((if c = sh d 2 ∧ sh c r = d then N else 0) + (if c = sh d 1 ∧ sh c r = d then N else 0) + (if c = sh d 0 ∧ sh c r = d then N else 0) : ℕ)) = N := by
  rw [Finset.sum_eq_single (sh c r)]
  · simp only [and_true]; exact one_of c r N
  · intro d _ hd
    simp only [show ¬ sh c r = d from fun h => hd h.symm, and_false, if_false, Nat.add_zero]
  · exact fun h => absurd (Finset.mem_univ _) h

theorem launch_at (g : GSem nD τ sig) (N : ℕ) (h : (∑ d : Dev nD, O₀ d g ()) = N) :
    tallyOn g (launchCredit (Pipeline.owing O₀) 0 g) = (tallyAt g () N : CellTallies nD τ sig Unit) := by
  unfold tallyAt; refine congrArg _ (Finsupp.ext fun u => ?_); cases u
  rw [Pipeline.launchCredit_owing, Finsupp.single_eq_same, h]
theorem launch_bar (c : Dev nD) : tallyOn (barC c) (launchCredit (Pipeline.owing O₀) 0 (barC c)) = (tallyAt (barC c) () 3 : CellTallies nD τ sig Unit) :=
  launch_at _ _ ((Finset.sum_congr rfl fun d _ => owed_bar d c).trans (sum_bar c))
theorem launch_rW (c : Dev nD) (r : Fin 3) :
    tallyOn (rWC c (sh c r)) (launchCredit (Pipeline.owing O₀) 0 (rWC c (sh c r))) = (tallyAt (rWC c (sh c r)) () NW : CellTallies nD τ sig Unit) :=
  launch_at _ _ ((Finset.sum_congr rfl fun d _ => owed_rW d c (sh c r)).trans (sum_recv c r NW))
theorem launch_rI (c : Dev nD) (r : Fin 3) :
    tallyOn (rIC c (sh c r)) (launchCredit (Pipeline.owing O₀) 0 (rIC c (sh c r))) = (tallyAt (rIC c (sh c r)) () NI : CellTallies nD τ sig Unit) :=
  launch_at _ _ ((Finset.sum_congr rfl fun d _ => owed_rI d c (sh c r)).trans (sum_recv c r NI))

theorem part_of (Φ : SemLoc sig → sProp 𝕄) : bigSep Finset.univ Φ
    = iprop(bigSep (Finset.univ.map ⟨csem, csem_injective⟩) Φ ∗ bigSep (Finset.univ \ Finset.univ.map ⟨csem, csem_injective⟩) Φ) :=
  BI.bigSep_sdiff_split (Finset.subset_univ _)

theorem creds (c : Dev nD) :
    (Pipeline.launchCred O₀ c : sProp 𝕄) ⊢ iprop(cred (tallyAt (barC c) () 3) ∗ credR c 0 ∗ credR c 1 ∗ credR c 2) := by
  unfold Pipeline.launchCred
  rw [part_of, bigSep_map]
  iintro ⟨H, -⟩
  ihave H := (Entails.of_eq (cells_held (F := F) c (fun sm => cred (tallyOn (cell c sm) (launchCredit (Pipeline.owing O₀) 0 (cell c sm)))))) $$ H
  icases H with ⟨HB, H⟩
  ihave H := (held_iff (F := F) c _).1 $$ H
  unfold held3 credR
  beta_reduce
  rw [launch_bar, launch_rW, launch_rW, launch_rW, launch_rI, launch_rI, launch_rI]
  icases H with ⟨-, -, ⟨Ha1, Ha2, -, -⟩, ⟨Hb1, Hb2, -, -⟩, ⟨Hc1, Hc2, -, -⟩⟩
  iframe

/-! ## The conditions of the run -/

theorem ownSemFacts : Pipeline.OwnSemFacts cfg0.spec osem := by decide +kernel
theorem share_eq (c : Dev nD) (w : Fin cfg0.W) : (dats m 0 c).share w = fullShare := by unfold Dat.share; split <;> rfl

/-- The argument the kernel does not take, kept through the run. -/
def spare (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ spare m c) := by
  rw [Pipeline.unscopedRestP_none, show (Pipeline.unscopedRest cfg0.spec c (fun b => m ((c : Thread nD τ).loc b)) : sProp 𝕄) = spare m c from unscopedRest0_eq c _]
  iintro ⟨Hz, Hlev, Hcr, -, HG⟩
  ihave Hc := (creds (F := F) c) $$ Hcr
  icases Hc with ⟨H1, H2⟩
  imodintro
  unfold start G'
  iframe

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = scratch c from scopedRest0_eq c]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, show (Pipeline.scopedRest cfg0.spec c : sProp 𝕄) = scratch c from scopedRest0_eq c, own_held, unscoped_eq]
  unfold Φ₁ zero3
  iintro ⟨Hr, HzB, HzW, HzI, ⟨Ha1, Ha2, Ha3, Ha4⟩, ⟨Hb1, Hb2, Hb3, Hb4⟩, ⟨Hc1, Hc2, Hc3, Hc4⟩⟩
  isplitl [HzB]
  · iexact HzB
  isplitr [Hr]
  · iapply (held_iff (F := F) c _).2
    unfold held3
    iframe
  iexact Hr

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

/-- What holds of every final state: the arrays of the windows as computed, the argument beside them as it was. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

set_option maxRecDepth 8000 in
/-- From any memory with its counters at zero, every fair execution of the program ends, with the result as computed,
    the arguments unchanged and every counter back at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := spare m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold spare
      iintro ⟨Hu, Hz, HSI⟩
      icombine HSI Hz gives %h0
      imod (Pipeline.unscopedSems0_read (X := unscopedSems0 c) (c := c) fupd_intro s') $$ [Hu HSI] with ⟨%h1, HSI⟩
      · isplitl [Hu] <;> iassumption
      imodintro
      isplitr
      · ipureintro; exact ⟨h1, Buf.eq_of_forall_mem_univ h0⟩
      iexact HSI)
    (hQ := fun _ h hs => ⟨fun c => ⟨fun w => (h c).1 w, (h c).2.2.2⟩, sem_eq_zero hs fun c => (h c).2.2.1⟩)

end Cert.Exchange

end
-- ==== Proof.Frames.lean ====
/-
# The arguments unchanged and every counter at zero, of the three programs
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Exchange

open Idealize.ShloMosaic Idealize.ShloMosaic.TcCoe Idealize.SL.Sem Cert.KernelIdeal Cert.KernelIdeal.Gen

variable {F : FTy → Type} [FloatOps F] (m : (ℓ : Loc nD τ sig) → Buf (Elt F) ℓ)

/-- The four arguments of every device as they were. -/
theorem args_kept {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 (0 : Fin 4)).trans ((dats (F := F) m 0 c).arrAt_in (0 : Fin 4) rfl _), (h c).2,
    ((h c).1 (1 : Fin 4)).trans ((dats (F := F) m 0 c).arrAt_in (1 : Fin 4) rfl _), ((h c).1 (2 : Fin 4)).trans ((dats (F := F) m 0 c).arrAt_in (2 : Fin 4) rfl _)⟩

theorem frame_any (ρ : Dev nD → PrngReg) : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run Cert.KernelIdeal.defs _ _).mono (fun _ h => ⟨fun c => args_kept m h.1 c, h.2⟩) (run_main m ρ)

theorem frame_KernelIdeal : Cert.quiescent_KernelIdeal := fun m ρ _ => frame_any (F := Ideal) m ρ

/-- The kernel as printed and the kernel read at exact numbers have one body. -/
theorem body_same : @Cert.Kernel.cc0_body F _ Cert.Kernel.Gen.facts = @Cert.KernelIdeal.cc0_body F _ Cert.KernelIdeal.Gen.facts := rfl

/-- So they have one body table. -/
theorem table_same : Cert.Kernel.defs₀ (F := F) = Cert.KernelIdeal.defs₀ := by
  unfold Cert.Kernel.defs₀ Cert.KernelIdeal.defs₀
  refine congrArg Defs.onTc ?_
  funext l x
  match l, x with
  | 0, (t, s) =>
    show Cert.Kernel.cc0_body _ _ _ _ _ _ _ _ _ _ _ _ _ _ _ _ _ _ = Cert.KernelIdeal.cc0_body _ _ _ _ _ _ _ _ _ _ _ _ _ _ _ _ _ _
    rw [body_same]
  | ⟨_ + 1, h⟩, _ => exact absurd h (Nat.not_lt.2 (Nat.le_add_left _ _))

/-- And one whole table. -/
theorem defs_same : Cert.Kernel.defs (F := F) = Cert.KernelIdeal.defs :=
  congrArg (Pipeline.defs (Cert.KernelIdeal.pcfgs (F := F))) table_same

/-- The kernel as printed, at machine floats. -/
theorem frame_Kernel : Cert.quiescent_Kernel := fun m ρ _ => by
  rw [defs_same]
  exact frame_any (F := Bits) m ρ

/-- The reference has no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Exchange

end
-- ==== Proof.Loads.lean ====
/-
# What the body's loads read, element by element
-/
module

public import proofs.«01_k».proof.Proof.Body
public import Idealize.ShloMosaic.Lib.Pointwise
public import Idealize.ShloMosaic.Lib.Pipeline.ValueKit

@[expose] public section

set_option maxRecDepth 16384

noncomputable section

namespace Cert.Exchange

open Idealize.ShloMosaic Idealize.ShloMosaic.TcCoe Cert.KernelIdeal Cert.KernelIdeal.Gen

variable {F : FTy → Type} [FloatOps F] (m : (ℓ : Loc nD τ sig) → Buf (Elt F) ℓ)

theorem at0 : win0_0.index t0_0 = fun _ => 0 := rfl
theorem at1 : win0_1.index t0_0 = fun _ => 0 := rfl
theorem at2 : win0_2.index t0_0 = fun _ => 0 := rfl

/-- The staged blocks are the device's whole arrays. -/
theorem xs_eq (c : Dev nD) : xs m c = m ((c.tc : Thread nD τ).loc main_arg0) := by
  funext j
  unfold xs iblk
  blk_ext [V, at0]
theorem is_eq (c : Dev nD) : is m c = m ((c.tc : Thread nD τ).loc main_arg2) := by
  funext j
  unfold is iblk
  blk_ext [V, at1]
theorem ws_eq (c : Dev nD) : ws m c = m ((c.tc : Thread nD τ).loc main_arg3) := by
  funext j
  unfold ws iblk
  blk_ext [V, at2]

/-- Where a load of one expert reads. -/
theorem row_place (o : ℕ) (inb) (k : Fin 128) (h : Fin 256) (a : Fin 3) :
    ((Rect.unit (s := S2x128x256) ![o, 0, 0] S1x128x256.size inb).toLoadRect.idx (ix3 0 k h) a).val = (![o, k.val, h.val] : Fin 3 → ℕ) a := by
  match a with
  | ⟨0, _⟩ => rfl
  | ⟨1, _⟩ => exact (Nat.zero_add _).trans (Nat.one_mul _)
  | ⟨2, _⟩ => exact (Nat.zero_add _).trans (Nat.one_mul _)

/-- The device's own experts as loaded. -/
theorem row0_at (c : Dev nD) (k : Fin 128) (h : Fin 256) : row0 m c (ix3 0 k h) = ws m c (ix3 0 k h) :=
  congrArg (ws m c) (funext fun a => Fin.ext ((row_place 0 _ k h a).trans (match a with | ⟨0, _⟩ => rfl | ⟨1, _⟩ => rfl | ⟨2, _⟩ => rfl)))
theorem row1_at (c : Dev nD) (k : Fin 128) (h : Fin 256) : row1 m c (ix3 0 k h) = ws m c (ix3 1 k h) :=
  congrArg (ws m c) (funext fun a => Fin.ext ((row_place 1 _ k h a).trans (match a with | ⟨0, _⟩ => rfl | ⟨1, _⟩ => rfl | ⟨2, _⟩ => rfl)))

/-- The slot of the device `r + 1` places after holds its route indices. -/
theorem ldI_at (c : Dev nD) (r : Fin 3) (t : Fin 256) : ldI m c r (ix3 0 t 0) = is m (sh c r) (ix2 t 0) := by
  have e (a : Fin 3) : ((ciM.access (rI6 c r)).emb (ix3 0 t 0) a).val = (![(sh c r).val, t.val, 0] : Fin 3 → ℕ) a := by
    show k0_off6 c (BitVec.ofNat 32 (1 + r.val)) a + 1 * (ix3 (n0 := 1) (n1 := 256) (n2 := 1) 0 t 0 a).val = _
    rw [k0_off6_eq]
    match a with
    | ⟨0, _⟩ => rfl
    | ⟨1, _⟩ => exact (Nat.zero_add _).trans (Nat.one_mul _)
    | ⟨2, _⟩ => rfl
  refine congrArg₂ (fun (d : Dev nD) (i : S256x1.Idx) => is m d i) (Fin.ext (e 0)) ?_
  exact funext fun a => Fin.ext (match a with | ⟨0, _⟩ => e 1 | ⟨1, _⟩ => e 2)

/-- And its narrowed experts. -/
theorem ldW_at (c : Dev nD) (r : Fin 3) (i : Fin 2) (k : Fin 128) (h : Fin 256) : ldW m c r (ix4 0 i k h) = n16 m (sh c r) (ix3 i k h) := by
  have e (a : Fin 4) : ((cwM.access (rW8 c r)).emb (ix4 0 i k h) a).val = (![(sh c r).val, i.val, k.val, h.val] : Fin 4 → ℕ) a := by
    show k0_off8 c (BitVec.ofNat 32 (1 + r.val)) a + 1 * (ix4 (n0 := 1) (n1 := 2) (n2 := 128) (n3 := 256) 0 i k h a).val = _
    rw [k0_off8_eq]
    match a with
    | ⟨0, _⟩ => rfl
    | ⟨1, _⟩ => exact (Nat.zero_add _).trans (Nat.one_mul _)
    | ⟨2, _⟩ => exact (Nat.zero_add _).trans (Nat.one_mul _)
    | ⟨3, _⟩ => exact (Nat.zero_add _).trans (Nat.one_mul _)
  refine congrArg₂ (fun (d : Dev nD) (i : S2x128x256.Idx) => n16 m d i) (Fin.ext (e 0)) ?_
  exact funext fun a => Fin.ext (match a with | ⟨0, _⟩ => e 1 | ⟨1, _⟩ => e 2 | ⟨2, _⟩ => e 3)

/-- At exact numbers narrowing changes nothing. -/
theorem n16_at (m : (ℓ : Loc nD τ sig) → Buf (Elt Ideal) ℓ) (c : Dev nD) (j : S2x128x256.Idx) : n16 m c j = ws m c j := by
  unfold n16
  pointwise [k0_pay1]

end Cert.Exchange

end
-- ==== Proof.KernelValue.lean ====
/-
# What the kernel computes, element by element, at exact numbers
-/
module

public import proofs.«01_k».proof.Proof.Loads

@[expose] public section

set_option maxRecDepth 16384

noncomputable section

namespace Cert.Exchange

open Idealize.ShloMosaic Cert.KernelIdeal Cert.KernelIdeal.Gen

/-! ## Bits and words -/

/-- A bit as a number. -/
def num (p : BitVec 1) : EReal := FloatOps.sitofp (F := Ideal) .f32 (BitVec.setWidth 32 p)

theorem num_one : num 1#1 = 1 := by
  show (((BitVec.setWidth 32 1#1).toInt : ℝ) : EReal) = 1
  rw [show (BitVec.setWidth 32 1#1).toInt = 1 by decide]
  simp
theorem num_zero : num 0#1 = 0 := by
  show (((BitVec.setWidth 32 0#1).toInt : ℝ) : EReal) = 0
  rw [show (BitVec.setWidth 32 0#1).toInt = 0 by decide]
  simp
theorem num_ofBool (p : Prop) [Decidable p] : num (BitVec.ofBool (decide p)) = if p then 1 else 0 := by
  by_cases h : p
  · simp [h, num_one]
  · simp [h, num_zero]

/-- One where the two words agree, zero elsewhere. -/
def gate (b e : BitVec 32) : EReal := if b = e then 1 else 0

theorem num_eq (b e : BitVec 32) : num (IntOp.cmpi .eq b e) = gate b e := by
  show num (BitVec.ofBool (b == e)) = _
  rw [show (b == e) = decide (b = e) from rfl, num_ofBool]
  rfl
theorem num_le (i j : Fin 256) : num (IntOp.cmpi .sle (BitVec.ofNat 32 i.val) (BitVec.ofNat 32 j.val)) = if i ≤ j then 1 else 0 := by
  show num (BitVec.ofBool ((BitVec.ofNat 32 i.val).sle (BitVec.ofNat 32 j.val))) = _
  rw [show (BitVec.ofNat 32 i.val).sle (BitVec.ofNat 32 j.val) = decide (i ≤ j) by revert i j; decide +kernel, num_ofBool]

/-- The number of expert `i` of device `d`. -/
abbrev expert (d : Dev nD) (i : Fin 2) : BitVec 32 := BitVec.ofNat 32 (2 * d.val + i.val)

theorem own_word0 (c : Dev nD) : Scalar.muli (me c) 2#32 = expert c 0 := by revert c; decide
theorem own_word1 (c : Dev nD) : o91 c = expert c 1 := by revert c; decide
theorem peer_word0 (c : Dev nD) (r : Fin 3) : Scalar.muli (pn c (BitVec.ofNat 32 (1 + r.val))) 2#32 = expert (sh c r) 0 := by
  revert c r; decide
theorem peer_word1 (c : Dev nD) (r : Fin 3) : Scalar.addi (Scalar.muli (pn c (BitVec.ofNat 32 (1 + r.val))) 2#32) 1#32 = expert (sh c r) 1 := by
  revert c r; decide
theorem peer_before (c : Dev nD) (r : Fin 3) :
    Scalar.cmpi .slt (pn c (BitVec.ofNat 32 (1 + r.val))) (me c) = if sh c r < c then 1#1 else 0#1 := by
  revert c r; decide

theorem select_before (c : Dev nD) (r : Fin 3) (a : EReal) :
    Scalar.select (Scalar.cmpi .slt (pn c (BitVec.ofNat 32 (1 + r.val))) (me c)) a 0 = if sh c r < c then a else 0 := by
  rw [peer_before]
  by_cases h : sh c r < c
  · rw [if_pos h, if_pos h]; rfl
  · rw [if_neg h, if_neg h]; rfl

/-! ## The products -/

/-- Row `t` of the tokens, zeroed unless its expert is `e`, times the column `w`. -/
def gated (x : Vec Ideal S256x128 .f32) (b e : BitVec 32) (w : Fin 128 → EReal) (t : Fin 256) : EReal :=
  ∑ k : Fin 128, x (ix2 t k) * gate b e * w k

theorem own0_at (v : BitVec 32) (x : Vec Ideal S256x128 .f32) (idx : Vec Ideal S256x1 .i32) (w : Vec Ideal S1x128x256 .f32) (t h : Fin 256) :
    k0_pay3 v x idx w (ix2 t h) = gated x (idx (ix2 t 0)) (Scalar.muli v 2#32) (fun k => w (ix3 0 k h)) t := by
  pointwise [k0_pay3, k0_pay2]
  simp only [gated, ← num_eq]
  rfl

theorem own1_at (x : FVec Ideal S256x128 .f32) (a : FVec Ideal S256x256 .f32) (e : BitVec 32) (idx : Vec Ideal S256x1 .i32)
    (w : Vec Ideal S1x128x256 .f32) (t h : Fin 256) :
    k0_pay4 x a e idx w (ix2 t h) = a (ix2 t h) + gated x (idx (ix2 t 0)) e (fun k => w (ix3 0 k h)) t := by
  pointwise [k0_pay4]
  simp only [gated, ← num_eq]
  rfl

variable (m : (ℓ : Loc nD τ sig) → Buf (Elt Ideal) ℓ)

/-- Device `c`'s row `t` through expert `i` of device `d`, zero unless the row chose that expert. -/
def term (c d : Dev nD) (i : Fin 2) (t h : Fin 256) : EReal :=
  gated (xs m c) (is m c (ix2 t 0)) (expert d i) (fun k => ws m d (ix3 i k h)) t

theorem o77_eq (c : Dev nD) : o77 m c = xs m c := by
  funext j
  unfold o77
  pointwise [k0_pay2]

theorem o103_at (c : Dev nD) (t h : Fin 256) : o103 m c (ix2 t h) = term m c c 0 t h + term m c c 1 t h := by
  unfold o103 o89
  rw [own1_at, own0_at, own_word0, own_word1, o77_eq]
  simp only [row0_at, row1_at]
  rfl

theorem wide0_at (w : Vec Ideal S1x2x128x256 .bf16) (i : Fin 2) (k : Fin 128) (h : Fin 256) : k0_pay11 w (ix3 i k h) = w (ix4 0 i k h) := by
  pointwise [k0_pay11]

/-- Two more experts' products, added to `a`. -/
theorem pair_at (x : FVec Ideal S256x128 .f32) (a : FVec Ideal S256x256 .f32) (v : BitVec 32) (w : FVec Ideal S2x128x256 .f32)
    (g : FVec Ideal S256x128 .f32) (idx : Vec Ideal S256x1 .i32) (t h : Fin 256) :
    k0_pay13 x a v w g idx (ix2 t h) = a (ix2 t h) + (∑ k, g (ix2 t k) * w (ix3 0 k h))
      + gated x (idx (ix2 t 0)) (Scalar.addi (Scalar.muli v 2#32) 1#32) (fun k => w (ix3 1 k h)) t := by
  pointwise [k0_pay13]
  simp only [gated, ← num_eq]
  rfl

/-- The last pair's sum is multiplied by the row's keep flag. -/
theorem kept_at (x : FVec Ideal S256x128 .f32) (keep : FVec Ideal S256 .f32) (a : FVec Ideal S256x256 .f32) (v : BitVec 32)
    (w : FVec Ideal S2x128x256 .f32) (g : FVec Ideal S256x128 .f32) (idx : Vec Ideal S256x1 .i32) (t h : Fin 256) :
    k0_pay19 x keep a v w g idx (ix2 t h) = keep (ix1 t) * k0_pay13 x a v w g idx (ix2 t h) := by
  rw [pair_at]
  pointwise [k0_pay19]
  simp only [gated, ← num_eq]
  rfl

/-- The three peers' pairs are added by the same text. -/
theorem pair16 (x : FVec Ideal S256x128 .f32) (a : FVec Ideal S256x256 .f32) (v : BitVec 32) (w : FVec Ideal S2x128x256 .f32)
    (g : FVec Ideal S256x128 .f32) (idx : Vec Ideal S256x1 .i32) : k0_pay16 x a v w g idx = k0_pay13 x a v w g idx := rfl
theorem wide14 (w : Vec Ideal S1x2x128x256 .bf16) : k0_pay14 w = k0_pay11 w := rfl
theorem wide17 (w : Vec Ideal S1x2x128x256 .bf16) : k0_pay17 w = k0_pay11 w := rfl

/-- The rows whose expert is the first one of the device `r + 1` places on. -/
theorem gate12_at (c : Dev nD) (x : FVec Ideal S256x128 .f32) (idx : Vec Ideal S256x1 .i32) (t : Fin 256) (k : Fin 128) :
    k0_pay12 (me c) x idx (ix2 t k) = x (ix2 t k) * gate (idx (ix2 t 0)) (expert (sh c 0) 0) := by
  rw [← peer_word0, ← num_eq]
  pointwise [k0_pay12]
  rfl
theorem gate15_at (c : Dev nD) (x : FVec Ideal S256x128 .f32) (idx : Vec Ideal S256x1 .i32) (t : Fin 256) (k : Fin 128) :
    k0_pay15 (me c) x idx (ix2 t k) = x (ix2 t k) * gate (idx (ix2 t 0)) (expert (sh c 2) 0) := by
  rw [← peer_word0, ← num_eq]
  pointwise [k0_pay15]
  rfl
theorem gate18_at (c : Dev nD) (x : FVec Ideal S256x128 .f32) (idx : Vec Ideal S256x1 .i32) (t : Fin 256) (k : Fin 128) :
    k0_pay18 (me c) x idx (ix2 t k) = x (ix2 t k) * gate (idx (ix2 t 0)) (expert (sh c 1) 0) := by
  rw [← peer_word0, ← num_eq]
  pointwise [k0_pay18]
  rfl

/-- A peer's pair, as the two terms of the device `r + 1` places on. -/
theorem peer_pair (c : Dev nD) (r : Fin 3) (a : FVec Ideal S256x256 .f32) (g : FVec Ideal S256x128 .f32) (t h : Fin 256)
    (hg : ∀ k, g (ix2 t k) = (show EReal from xs m c (ix2 t k)) * gate (is m c (ix2 t 0)) (expert (sh c r) 0)) :
    k0_pay13 (o77 m c) a (pn c (BitVec.ofNat 32 (1 + r.val))) (k0_pay11 (ldW m c r)) g (is m c) (ix2 t h)
      = a (ix2 t h) + term m c (sh c r) 0 t h + term m c (sh c r) 1 t h := by
  rw [pair_at, peer_word1, o77_eq]
  simp only [hg, wide0_at, ldW_at, n16_at]
  rfl

/-! ## The rank -/

/-- How many rows of device `d` chose expert `e`. -/
def count (d : Dev nD) (e : Fin 8) : EReal := ∑ j : Fin 256, gate (is m d (ix2 j 0)) (BitVec.ofNat 32 e.val)

/-- How many rows of device `c` up to row `t` chose expert `e`. -/
def upto (c : Dev nD) (t : Fin 256) (e : Fin 8) : EReal :=
  ∑ j : Fin 256, (if j ≤ t then 1 else 0) * gate (is m c (ix2 j 0)) (BitVec.ofNat 32 e.val)

/-- How many rows of the devices before `c` chose expert `e`. -/
def before (c : Dev nD) (e : Fin 8) : EReal :=
  (if sh c 0 < c then count m (sh c 0) e else 0) + (if sh c 1 < c then count m (sh c 1) e else 0)
    + (if sh c 2 < c then count m (sh c 2) e else 0)

/-- The rank of row `t` of device `c` in the queue of its own expert, itself included; zero if it chose none. -/
def rank (c : Dev nD) (t : Fin 256) : EReal :=
  ∑ e : Fin 8, (before m c e + upto m c t e) * gate (is m c (ix2 t 0)) (BitVec.ofNat 32 e.val)

theorem chosen_at (idx : Vec Ideal S256x1 .i32) (t : Fin 256) (e : Fin 8) :
    k0_pay5 idx (ix2 t e) = gate (idx (ix2 t 0)) (BitVec.ofNat 32 e.val) := by
  pointwise [k0_pay5]
  rw [← num_eq]
  rfl
theorem peer_chosen_at (idx : Vec Ideal S1x256x1 .i32) (t : Fin 256) (e : Fin 8) :
    k0_pay8 idx (ix2 t e) = gate (idx (ix3 0 t 0)) (BitVec.ofNat 32 e.val) := by
  pointwise [k0_pay8]
  rw [← num_eq]
  rfl
theorem upto_at (c : Dev nD) (t : Fin 256) (e : Fin 8) : k0_pay6 (is m c) (ix2 t e) = upto m c t e := by
  unfold upto
  pointwise [k0_pay6, k0_pay5]
  simp only [← num_eq, ← num_le]
  rfl

theorem none_at (e : Fin 8) : (k0_pay7 (F := Ideal)) (ix2 0 e) = 0 := by
  pointwise [k0_pay7]

theorem two_before_at (c : Dev nD) (e : Fin 8) :
    o159 m c (ix2 0 e) = (if sh c 0 < c then count m (sh c 0) e else 0) + (if sh c 1 < c then count m (sh c 1) e else 0) := by
  have h : o159 m c (ix2 0 e) = (k0_pay7 (F := Ideal)) (ix2 0 e)
      + Scalar.select (Scalar.cmpi .slt (pn c 1#32) (me c)) (∑ j : Fin 256, k0_pay8 (ldI m c 0) (ix2 j e)) 0
      + Scalar.select (Scalar.cmpi .slt (pn c 2#32) (me c)) (∑ j : Fin 256, num (IntOp.cmpi .eq (ldI m c 1 (ix3 0 j 0)) (BitVec.ofNat 32 e.val))) 0 := by
    unfold o159
    pointwise [k0_pay9]
    rfl
  rw [h, none_at, zero_add]
  refine congrArg₂ (· + ·) ((select_before c 0 _).trans ?_) ((select_before c 1 _).trans ?_)
  · simp only [peer_chosen_at, ldI_at]; rfl
  · simp only [num_eq, ldI_at]; rfl

theorem capacity : Ideal.ofBits FTy.f32 1120665600#32 = 102 := by
  simp [Ideal.ofBits, Ideal.ieee, -EReal.coe_mul]
  rw [show (13369344 * (2 ^ 17)⁻¹ : ℝ) = 102 by norm_num]
  rfl

theorem keep_at (c : Dev nD) (t : Fin 256) : o188 m c (ix1 t) = if rank m c t ≤ 102 then 1 else 0 := by
  have h : o188 m c (ix1 t) = num (BitVec.ofBool (decide ((∑ e : Fin 8, (o159 m c (ix2 0 e)
      + Scalar.select (Scalar.cmpi .slt (pn c 3#32) (me c)) (∑ j : Fin 256, num (IntOp.cmpi .eq (ldI m c 2 (ix3 0 j 0)) (BitVec.ofNat 32 e.val))) 0
      + k0_pay6 (is m c) (ix2 t e)) * k0_pay5 (is m c) (ix2 t e)) ≤ Ideal.ofBits FTy.f32 1120665600#32))) := by
    unfold o188
    pointwise [k0_pay10]
    rfl
  have hb : ∀ e : Fin 8, Scalar.select (Scalar.cmpi .slt (pn c 3#32) (me c))
      (∑ j : Fin 256, num (IntOp.cmpi .eq (ldI m c 2 (ix3 0 j 0)) (BitVec.ofNat 32 e.val))) 0
      = if sh c 2 < c then count m (sh c 2) e else 0 := fun e => by
    refine (select_before c 2 _).trans ?_
    simp only [num_eq, ldI_at]; rfl
  rw [h, num_ofBool, capacity]
  simp only [hb, two_before_at, upto_at, chosen_at]
  rfl

/-- One element of the kernel's result. -/
theorem outAt_at (c : Dev nD) (t h : Fin 256) :
    outAt m c (ix2 t h) = (if rank m c t ≤ 102 then 1 else 0)
      * (term m c c 0 t h + term m c c 1 t h + term m c (sh c 0) 0 t h + term m c (sh c 0) 1 t h
        + term m c (sh c 2) 0 t h + term m c (sh c 2) 1 t h + term m c (sh c 1) 0 t h + term m c (sh c 1) 1 t h) := by
  have h1 := peer_pair m c 1 (o266 m c) (k0_pay18 (me c) (o77 m c) (is m c)) t h fun k => by rw [gate18_at, o77_eq]
  have h2 := peer_pair m c 2 (o227 m c) (k0_pay15 (me c) (o77 m c) (is m c)) t h fun k => by rw [gate15_at, o77_eq]
  have h0 := peer_pair m c 0 (o103 m c) (k0_pay12 (me c) (o77 m c) (is m c)) t h fun k => by rw [gate12_at, o77_eq]
  have e2 : o266 m c (ix2 t h) = _ := h2
  have e0 : o227 m c (ix2 t h) = _ := h0
  unfold outAt
  rw [kept_at, wide17, keep_at]
  refine congrArg _ (h1.trans ?_)
  rw [e2, e0, o103_at]

end Cert.Exchange

end
-- ==== Proof.RefValue.lean ====
/-
# What the reference computes, element by element
-/
module

public import proofs.«01_k».proof.Proof.Gen.ReferenceIdeal.Run
public import Idealize.ShloMosaic.Lib.Pointwise
public import Idealize.ShloMosaic.Lib.Routing.OpsOne
public import Idealize.ShloMosaic.Lib.Routing.BitFacts

@[expose] public section

set_option maxRecDepth 16384

noncomputable section

namespace Cert.Exchange.Ref

open Idealize.ShloMosaic Idealize.ShloMosaic.Routing Cert.ReferenceIdeal Cert.ReferenceIdeal.Gen

/-- Whether token `T` chose expert `e`, as a bit. -/
def mine (idx : IVec S1024x1 32) : IVec S1024x8 1 :=
  cmpi .eq (broadcastInDim S1024x8 ![0, 1] bcast_S1024x1_S1024x8_0_1 idx) (broadcastInDim S1024x8 ![0, 1] bcast_S1x8_S1024x8_0_1 (broadcastInDim S1x8 ![1] bcast_S8_S1x8_1 (iotaInDim S8 32 0)))

/-- The running counts of each expert's tokens. -/
def ranks (idx : IVec S1024x1 32) : IVec S1024x8 32 :=
  Host.reduceWindow IntOp.addi ![1024, 1] ![1, 1] ![1023, 0] ![0, 0] (extui 32 (mine idx) natLt_1_32) (broadcastInDim S_ ![] bcast_S_S_ (constantI S_ 32 0#32)) reduceWindows_S1024x8_S1024x8_w1024s1p1023_0_w1s1p0_0 h_S_

theorem mine_at (idx : IVec S1024x1 32) (T : Fin 1024) (e : Fin 8) :
    mine idx (ix2 T e) = IntOp.cmpi .eq (idx (ix2 T 0)) (BitVec.ofNat 32 e.val) := by
  pointwise [mine]

/-- One where token `i` chose expert `e`, zero elsewhere. -/
def ind (idx : IVec S1024x1 32) (e i : Nat) : Nat :=
  if h : i < 1024 then (if idx (ix2 ⟨i, h⟩ 0) = BitVec.ofNat 32 e then 1 else 0) else 0

theorem ind_at (idx : IVec S1024x1 32) (e : Nat) (T : Fin 1024) :
    ind idx e T.val = if idx (ix2 T 0) = BitVec.ofNat 32 e then 1 else 0 := dif_pos T.isLt

theorem ind_le (idx : IVec S1024x1 32) (e i : Nat) : ind idx e i ≤ 1 := by
  unfold ind
  split
  · split <;> omega
  · omega

/-- Token `T`'s place in the queue of expert `e`: how many tokens up to it chose that expert. -/
def place (idx : IVec S1024x1 32) (e T : Nat) : Nat := ∑ i ∈ Finset.range (T + 1), ind idx e i

theorem place_le (idx : IVec S1024x1 32) (e T : Nat) : place idx e T ≤ T + 1 :=
  (Finset.sum_le_sum fun i _ => ind_le idx e i).trans (by simp)

theorem place_pos (idx : IVec S1024x1 32) (e : Nat) (T : Fin 1024) (h : idx (ix2 T 0) = BitVec.ofNat 32 e) : 1 ≤ place idx e T.val := by
  unfold place
  rw [Finset.sum_range_succ, ind_at, if_pos h]
  omega

theorem widen (b : BitVec 32) (e : Nat) :
    BitVec.setWidth 32 (IntOp.cmpi .eq b (BitVec.ofNat 32 e)) = BitVec.ofNat 32 (if b = BitVec.ofNat 32 e then 1 else 0) := by
  show BitVec.setWidth 32 (BitVec.ofBool (decide (b = BitVec.ofNat 32 e))) = _
  by_cases h : b = BitVec.ofNat 32 e
  · simp [h]
  · simp [h]

theorem ranks_at (idx : IVec S1024x1 32) (T : Fin 1024) (e : Fin 8) : ranks idx (ix2 T e) = BitVec.ofNat 32 (place idx e.val T.val) := by
  unfold ranks
  refine (congrArg _ (ix2_eq_valueIdx T e)).trans ((cumsum_rows (R := 1024) (Rm1 := 1023) (C := 8) rfl (extui 32 (mine idx) natLt_1_32)
    (fun i c => ind idx c i) (fun i c => ?_) _ ?_ _ _ T e).trans ?_)
  · rw [← ix2_eq_valueIdx, ind_at, ← widen, ← mine_at]
    rfl
  · rfl
  · rfl

/-- The result, its two intermediate arrays named. -/
def out (x : FVec Ideal S1024x128 .f32) (w : FVec Ideal S8x128x256 .f32) (r : IVec S1024x8 32) (mi : IVec S1024x8 1) : FVec Ideal S1024x256 .f32 :=
  Host.reduceAdd (select (broadcastInDim S1024x8x256 ![0, 1, 2] bcast_S1024x8x1_S1024x8x256_0_1_2 (broadcastInDim S1024x8x1 ![0, 1] bcast_S1024x8_S1024x8x1_0_1 (andi mi (cmpi .slt (subi r (extui 32 mi natLt_1_32)) (broadcastInDim S1024x8 ![] bcast_S_S1024x8 (constantI S_ 32 102#32)))))) (Host.dotGeneral dot_S1024x128_S8x128x256_S1024x8x256_1_1_0_02_n_n none x w) (broadcastInDim S1024x8x256 ![] bcast_S_S1024x8x256 (constant S_ .f32 0x00000000#32))) (constant S_ .f32 0x00000000#32) reducesTo_S1024x8x256_S1024x256_d1 h_S_

/-- Token `T` through expert `e`. -/
def through (x : FVec Ideal S1024x128 .f32) (w : FVec Ideal S8x128x256 .f32) (T : Fin 1024) (e : Fin 8) (h : Fin 256) : EReal :=
  ∑ k : Fin 128, x (ix2 T k) * w (ix3 e k h)

/-- Whether token `T` is among the first 102 of expert `e`, as the two bits conjoined. -/
theorem kept_bit (b : BitVec 32) (e N : Nat) (hN : N ≤ 1024) (hp : b = BitVec.ofNat 32 e → 1 ≤ N) :
    IntOp.andi (IntOp.cmpi .eq b (BitVec.ofNat 32 e))
        (IntOp.cmpi .slt (IntOp.subi (BitVec.ofNat 32 N) (BitVec.setWidth 32 (IntOp.cmpi .eq b (BitVec.ofNat 32 e)))) 102#32)
      = if b = BitVec.ofNat 32 e ∧ N ≤ 102 then 1#1 else 0#1 := by
  rw [widen]
  show BitVec.ofBool (decide (b = BitVec.ofNat 32 e)) &&& BitVec.ofBool ((BitVec.ofNat 32 N - _).slt (BitVec.ofNat 32 102)) = _
  by_cases h : b = BitVec.ofNat 32 e
  · have h1 := hp h
    rw [if_pos h, ofNat32_sub h1, slt_ofNat32 (by omega) (by omega)]
    by_cases h2 : N ≤ 102
    · rw [if_pos ⟨h, h2⟩, decide_eq_true h, decide_eq_true (by omega : N - 1 < 102)]; rfl
    · rw [if_neg fun q => h2 q.2, decide_eq_true h, decide_eq_false (by omega : ¬ N - 1 < 102)]; rfl
  · rw [if_neg fun q : b = BitVec.ofNat 32 e ∧ N ≤ 102 => h q.1, decide_eq_false h]
    exact BitVec.zero_and

/-- One element of the reference's result. -/
theorem out_at (x : FVec Ideal S1024x128 .f32) (idx : IVec S1024x1 32) (w : FVec Ideal S8x128x256 .f32) (T : Fin 1024) (h : Fin 256) :
    out x w (ranks idx) (mine idx) (ix2 T h)
      = ∑ e : Fin 8, if idx (ix2 T 0) = BitVec.ofNat 32 e.val ∧ place idx e.val T.val ≤ 102 then through x w T e h else 0 := by
  have q : out x w (ranks idx) (mine idx) (ix2 T h) = ∑ e : Fin 8, Scalar.select (IntOp.andi (mine idx (ix2 T e))
      (IntOp.cmpi .slt (IntOp.subi (ranks idx (ix2 T e)) (BitVec.setWidth 32 (mine idx (ix2 T e)))) 102#32)) (through x w T e h) 0 := by
    unfold through
    pointwise [out]
  rw [q]
  refine Finset.sum_congr rfl fun e _ => ?_
  rw [ranks_at, mine_at, kept_bit _ _ _ ((place_le idx e.val T.val).trans T.isLt) (place_pos idx e.val T)]
  by_cases p : idx (ix2 T 0) = BitVec.ofNat 32 e.val ∧ place idx e.val T.val ≤ 102
  · rw [if_pos p, if_pos p]; rfl
  · rw [if_neg p, if_neg p]; rfl

end Cert.Exchange.Ref

end
-- ==== Proof.Equation.lean ====
/-
# The kernel computes the reference's function
-/
module

public import proofs.«01_k».proof.Proof.Frames
public import proofs.«01_k».proof.Proof.KernelValue
public import proofs.«01_k».proof.Proof.RefValue
public import Idealize.ShloMosaic.Lib.Pipeline.ValueKit

@[expose] public section

set_option maxRecDepth 16384

noncomputable section

namespace Cert.Exchange

open Idealize.ShloMosaic Cert.KernelIdeal Cert.KernelIdeal.Gen Cert.Exchange.Ref

/-- The whole arrays, as the reference holds them. -/
structure Whole where
  x : FVec Ideal ⟨2, ![1024, 128]⟩ .f32
  idx : IVec ⟨2, ![1024, 1]⟩ 32
  w : FVec Ideal ⟨3, ![8, 128, 256]⟩ .f32

/-- Each device holds its block of each whole array. -/
structure Holds (m : (ℓ : Loc nD τ sig) → Buf (Elt Ideal) ℓ) (A : Whole) : Prop where
  x : ∀ c : Dev nD, m ((c.tc : Thread nD τ).loc main_arg0) = Layout.block ⟨2, ![256, 128]⟩ ⟨2, ![1024, 128]⟩ 0 4 c A.x
  idx : ∀ c : Dev nD, m ((c.tc : Thread nD τ).loc main_arg2) = Layout.block ⟨2, ![256, 1]⟩ ⟨2, ![1024, 1]⟩ 0 4 c A.idx
  w : ∀ c : Dev nD, m ((c.tc : Thread nD τ).loc main_arg3) = Layout.block ⟨3, ![2, 128, 256]⟩ ⟨3, ![8, 128, 256]⟩ 0 4 c A.w

/-- Row `t` of device `c` is this token. -/
def tok (c : Dev nD) (t : Fin 256) : Fin 1024 := ⟨256 * c.val + t.val, by have : c.val < 4 := c.isLt; omega⟩
/-- Expert `i` of device `d` is this expert. -/
def xpt (d : Dev nD) (i : Fin 2) : Fin 8 := ⟨2 * d.val + i.val, by have : d.val < 4 := d.isLt; omega⟩

section Blocks
variable {α : Type}

/-- A block of rows, read at an index. -/
theorem rows_at {n : Nat} (v : (⟨2, ![1024, n]⟩ : Shape).Idx → α) (h : Layout.Tiles ⟨2, ![256, n]⟩ ⟨2, ![1024, n]⟩ 0 4) (c : Dev nD) (t : Fin 256) (k : Fin n) :
    Layout.block ⟨2, ![256, n]⟩ ⟨2, ![1024, n]⟩ 0 4 c v h (ix2 t k) = v (ix2 (tok c t) k) := by
  refine congrArg v (funext fun a => Fin.ext ((h.idx_val c _ a).trans ?_))
  match a with
  | ⟨0, _⟩ => show c.val * 256 + t.val = 256 * c.val + t.val; omega
  | ⟨1, _⟩ => rfl

/-- A block of experts, read at an index. -/
theorem experts_at (v : (⟨3, ![8, 128, 256]⟩ : Shape).Idx → α) (h : Layout.Tiles ⟨3, ![2, 128, 256]⟩ ⟨3, ![8, 128, 256]⟩ 0 4) (d : Dev nD) (i : Fin 2) (k : Fin 128) (j : Fin 256) :
    Layout.block ⟨3, ![2, 128, 256]⟩ ⟨3, ![8, 128, 256]⟩ 0 4 d v h (ix3 i k j) = v (ix3 (xpt d i) k j) := by
  refine congrArg v (funext fun a => Fin.ext ((h.idx_val d _ a).trans ?_))
  match a with
  | ⟨0, _⟩ => show d.val * 2 + i.val = 2 * d.val + i.val; omega
  | ⟨1, _⟩ => rfl
  | ⟨2, _⟩ => rfl

end Blocks

variable {m : (ℓ : Loc nD τ sig) → Buf (Elt Ideal) ℓ} {A : Whole}

theorem xs_at (H : Holds m A) (c : Dev nD) (t : Fin 256) (k : Fin 128) : xs m c (ix2 t k) = A.x (ix2 (tok c t) k) :=
  (congrFun ((xs_eq m c).trans (H.x c)) _).trans (rows_at _ _ c t k)
theorem is_at (H : Holds m A) (c : Dev nD) (t : Fin 256) : is m c (ix2 t 0) = A.idx (ix2 (tok c t) 0) :=
  (congrFun ((is_eq m c).trans (H.idx c)) _).trans (rows_at _ _ c t 0)
theorem ws_at (H : Holds m A) (d : Dev nD) (i : Fin 2) (k : Fin 128) (h : Fin 256) : ws m d (ix3 i k h) = A.w (ix3 (xpt d i) k h) :=
  (congrFun ((ws_eq m d).trans (H.w d)) _).trans (experts_at _ _ d i k h)

/-! ## The products -/

/-- Token `T` through expert `e`, zero unless it chose that expert. -/
def own (A : Whole) (T : Fin 1024) (h : Fin 256) (e : Fin 8) : EReal :=
  if A.idx (ix2 T 0) = BitVec.ofNat 32 e.val then through A.x A.w T e h else 0

theorem term_eq (H : Holds m A) (c d : Dev nD) (i : Fin 2) (t h : Fin 256) : term m c d i t h = own A (tok c t) h (xpt d i) := by
  unfold term gated own gate
  simp only [xs_at H, is_at H, ws_at H]
  show (∑ k : Fin 128, A.x (ix2 (tok c t) k) * (if A.idx (ix2 (tok c t) 0) = BitVec.ofNat 32 (xpt d i).val then 1 else 0) * A.w (ix3 (xpt d i) k h)) = _
  by_cases q : A.idx (ix2 (tok c t) 0) = BitVec.ofNat 32 (xpt d i).val
  · simp only [if_pos q, mul_one]; rfl
  · simp only [if_neg q, mul_zero, zero_mul, Finset.sum_const_zero]

/-- The order in which device `c` adds the experts' products. -/
def turn (c : Dev nD) : Fin 8 → Fin 8 :=
  ![xpt c 0, xpt c 1, xpt (sh c 0) 0, xpt (sh c 0) 1, xpt (sh c 2) 0, xpt (sh c 2) 1, xpt (sh c 1) 0, xpt (sh c 1) 1]
theorem turn_bijective (c : Dev nD) : Function.Bijective (turn c) :=
  Finite.injective_iff_bijective.1 (by revert c; decide +kernel)

/-- The eight terms, in whichever order a device adds them. -/
theorem eight (c : Dev nD) (f : Fin 8 → EReal) :
    f (xpt c 0) + f (xpt c 1) + f (xpt (sh c 0) 0) + f (xpt (sh c 0) 1) + f (xpt (sh c 2) 0) + f (xpt (sh c 2) 1)
      + f (xpt (sh c 1) 0) + f (xpt (sh c 1) 1) = ∑ e, f e := by
  refine (Fin.sum_univ_eight fun i => f (turn c i)).symm.trans ?_
  exact (turn_bijective c).sum_comp f

/-! ## The rank -/

/-- A sum over blocks of 256. -/
theorem sum_blocks (f : Nat → Nat) (n : Nat) :
    ∑ i ∈ Finset.range (256 * n), f i = ∑ d ∈ Finset.range n, ∑ j ∈ Finset.range 256, f (256 * d + j) := by
  induction n with
  | zero => simp
  | succ n ih => rw [Nat.mul_succ, Finset.sum_range_add, ih, Finset.sum_range_succ _ n]

theorem gate_eq (H : Holds m A) (c : Dev nD) (j : Fin 256) (e : Fin 8) :
    gate (is m c (ix2 j 0)) (BitVec.ofNat 32 e.val) = ((ind A.idx e.val (256 * c.val + j.val) : Nat) : EReal) := by
  rw [is_at H, show 256 * c.val + j.val = (tok c j).val from rfl, ind_at]
  unfold gate
  split <;> simp

theorem count_eq (H : Holds m A) (d : Dev nD) (e : Fin 8) :
    count m d e = ((∑ j ∈ Finset.range 256, ind A.idx e.val (256 * d.val + j) : Nat) : EReal) := by
  unfold count
  simp only [gate_eq H]
  rw [Finset.sum_range]
  push_cast
  rfl

theorem prefix_sum (g : Nat → Nat) (t : Fin 256) :
    (∑ j : Fin 256, (if j ≤ t then (1 : EReal) else 0) * ((g j.val : Nat) : EReal)) = ((∑ j ∈ Finset.range (t.val + 1), g j : Nat) : EReal) := by
  have h : ∀ j : Fin 256, (if j ≤ t then (1 : EReal) else 0) * ((g j.val : Nat) : EReal) = ((if j.val ≤ t.val then g j.val else 0 : Nat) : EReal) := fun j => by
    by_cases q : j ≤ t
    · rw [if_pos q, if_pos (show j.val ≤ t.val from q), one_mul]
    · rw [if_neg q, if_neg (show ¬ j.val ≤ t.val from q), zero_mul, Nat.cast_zero]
  rw [Finset.sum_congr rfl fun j _ => h j, ← Nat.cast_sum, ← Finset.sum_range fun i => if i ≤ t.val then g i else 0, ← Finset.sum_filter]
  congr 2
  ext i
  simp only [Finset.mem_filter, Finset.mem_range]
  omega

theorem before_sum (c : Dev nD) (g : Nat → Nat) :
    (if sh c 0 < c then ((g (sh c 0).val : Nat) : EReal) else 0) + (if sh c 1 < c then ((g (sh c 1).val : Nat) : EReal) else 0)
      + (if sh c 2 < c then ((g (sh c 2).val : Nat) : EReal) else 0) = ((∑ d ∈ Finset.range c.val, g d : Nat) : EReal) := by
  have h : ∀ r, (if sh c r < c then ((g (sh c r).val : Nat) : EReal) else 0) = ((if sh c r < c then g (sh c r).val else 0 : Nat) : EReal) := fun r => by
    split <;> simp
  rw [h, h, h, ← Nat.cast_add, ← Nat.cast_add]
  refine congrArg _ ?_
  match c with
  | ⟨0, _⟩ => simp [sh]
  | ⟨1, _⟩ => simp [sh]
  | ⟨2, _⟩ => simp [sh, Finset.sum_range_succ]
  | ⟨3, _⟩ => simp [sh, nD, Finset.sum_range_succ]

theorem upto_eq (H : Holds m A) (c : Dev nD) (t : Fin 256) (e : Fin 8) :
    upto m c t e = ((∑ j ∈ Finset.range (t.val + 1), ind A.idx e.val (256 * c.val + j) : Nat) : EReal) := by
  unfold upto
  simp only [gate_eq H]
  exact prefix_sum (fun j => ind A.idx e.val (256 * c.val + j)) t

theorem before_eq (H : Holds m A) (c : Dev nD) (e : Fin 8) :
    before m c e = ((∑ d ∈ Finset.range c.val, ∑ j ∈ Finset.range 256, ind A.idx e.val (256 * d + j) : Nat) : EReal) := by
  unfold before
  simp only [count_eq H]
  exact before_sum c fun d => ∑ j ∈ Finset.range 256, ind A.idx e.val (256 * d + j)

theorem rank_eq (H : Holds m A) (c : Dev nD) (t : Fin 256) (e : Fin 8) : before m c e + upto m c t e = ((place A.idx e.val (tok c t).val : Nat) : EReal) := by
  rw [before_eq H, upto_eq H, ← EReal.coe_natCast, ← EReal.coe_natCast, ← EReal.coe_natCast, ← EReal.coe_add, ← Nat.cast_add, ← sum_blocks, ← Finset.sum_range_add]
  rfl

/-! ## The result -/

theorem words_ne (e e' : Fin 8) (h : e' ≠ e) : ¬ (BitVec.ofNat 32 e.val = BitVec.ofNat 32 e'.val) := by
  revert e e'; decide

theorem outAt_eq (H : Holds m A) (c : Dev nD) (t h : Fin 256) :
    outAt m c (ix2 t h) = out A.x A.w (ranks A.idx) (mine A.idx) (ix2 (tok c t) h) := by
  rw [outAt_at, out_at]
  simp only [term_eq H]
  rw [eight c (own A (tok c t) h)]
  unfold rank
  simp only [rank_eq H, is_at H]
  unfold own gate
  by_cases q : ∃ e : Fin 8, A.idx (ix2 (tok c t) 0) = BitVec.ofNat 32 e.val
  · obtain ⟨e, he⟩ := q
    have ne : ∀ e' : Fin 8, e' ≠ e → ¬ (A.idx (ix2 (tok c t) 0) = BitVec.ofNat 32 e'.val) := fun e' n => by
      rw [he]; exact words_ne e e' n
    rw [Finset.sum_eq_single e (fun e' _ n => by rw [if_neg (ne e' n), mul_zero]) (fun n => absurd (Finset.mem_univ e) n),
      Finset.sum_eq_single e (fun e' _ n => if_neg (ne e' n)) (fun n => absurd (Finset.mem_univ e) n),
      Finset.sum_eq_single e (fun e' _ n => if_neg fun k => ne e' n k.1) (fun n => absurd (Finset.mem_univ e) n), if_pos he, if_pos he, mul_one]
    have k : ((place A.idx e.val (tok c t).val : Nat) : EReal) ≤ 102 ↔ place A.idx e.val (tok c t).val ≤ 102 := by
      exact_mod_cast Iff.rfl
    by_cases l : place A.idx e.val (tok c t).val ≤ 102
    · rw [if_pos (k.2 l), if_pos ⟨he, l⟩, one_mul]
    · rw [if_neg fun p => l (k.1 p), if_neg fun p => l p.2, zero_mul]
  · have ne : ∀ e' : Fin 8, ¬ (A.idx (ix2 (tok c t) 0) = BitVec.ofNat 32 e'.val) := fun e' k => q ⟨e', k⟩
    simp only [ne, if_false, false_and, Finset.sum_const_zero, mul_zero]

/-- The result array of every device, after the run. -/
theorem final_out (m : (ℓ : Loc nD τ sig) → Buf (Elt Ideal) ℓ) (c : Dev nD) : finalA m c (3 : Fin 4) = outAt m c := by
  refine (dats m 0 c).arrAt_eq_of_after_last (3 : Fin 4) t0_0 (by decide +kernel) _ fun j => ?_
  blk_simp
  rfl

theorem algebraic : Cert.algebraic_KernelIdeal_ReferenceIdeal := fun m g m' g' _ hm => by
  have H : Holds m ⟨m' (((0 : Dev Cert.ReferenceIdeal.nD).tc : Thread Cert.ReferenceIdeal.nD Cert.ReferenceIdeal.τ).loc Cert.ReferenceIdeal.main_arg0),
      m' (((0 : Dev Cert.ReferenceIdeal.nD).tc : Thread Cert.ReferenceIdeal.nD Cert.ReferenceIdeal.τ).loc Cert.ReferenceIdeal.main_arg2),
      m' (((0 : Dev Cert.ReferenceIdeal.nD).tc : Thread Cert.ReferenceIdeal.nD Cert.ReferenceIdeal.τ).loc Cert.ReferenceIdeal.main_arg3)⟩ :=
    ⟨fun c => (hm c).1, fun c => (hm c).2.2.1, fun c => (hm c).2.2.2⟩
  refine ⟨_, (θ_run Cert.KernelIdeal.defs _ _).mono (fun r h c => ⟨?_, args_kept m h.1 c⟩) (run_main m g),
    (θ_run Cert.ReferenceIdeal.defs _ _).mono (fun r h => h 0) (Cert.ReferenceIdeal.Value.run m' g')⟩
  refine ((h.1 c).1 (3 : Fin 4)).trans ((final_out m c).trans (funext fun j => ?_))
  have hj : j = ix2 (j 0) (j 1) := funext fun a => by
    match a with
    | ⟨0, _⟩ => rfl
    | ⟨1, _⟩ => rfl
  rw [hj]
  exact (outAt_eq H c (j 0) (j 1)).trans (rows_at _ _ c (j 0) (j 1)).symm

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.frame_Kernel, Cert.Exchange.frame_KernelIdeal, Cert.Exchange.frame_ReferenceIdeal, trivial, Cert.Exchange.algebraic⟩

end Cert.Proof

end
